-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 64]⟩ ⟨2, ![2048, 2048]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![64, 2048]⟩ ⟨2, ![2048, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x64 : Shape := ⟨2, ![2048, 64]⟩
abbrev S64x2048 : Shape := ⟨2, ![64, 2048]⟩
abbrev S32 : Shape := ⟨1, ![32]⟩
abbrev S_ : Shape := ⟨0, ![]⟩
abbrev S1 : Shape := ⟨1, ![1]⟩
abbrev S2048x2048 : Shape := ⟨2, ![2048, 2048]⟩
abbrev S32x64x2048 : Shape := ⟨3, ![32, 64, 2048]⟩
abbrev S32x2 : Shape := ⟨2, ![32, 2]⟩
abbrev S1x64x2048 : Shape := ⟨3, ![1, 64, 2048]⟩
abbrev S1x1 : Shape := ⟨2, ![1, 1]⟩
abbrev S1x64x1024 : Shape := ⟨3, ![1, 64, 1024]⟩
abbrev S64x1024 : Shape := ⟨2, ![64, 1024]⟩
abbrev S32x64x512 : Shape := ⟨3, ![32, 64, 512]⟩
abbrev S2048x512 : Shape := ⟨2, ![2048, 512]⟩

abbrev nBuf : Space → Nat
  | .hbm => 47
  | .vmem => 5
  | .smem => 2
  | _ => 0

abbrev bufTy : (tb : Table) → Fin (tcTables nBuf tb) → BufTy
  | .hbm, ⟨0, _⟩ => ⟨S2048x64, .f32⟩
  | .hbm, ⟨1, _⟩ => ⟨S64x2048, .f32⟩
  | .hbm, ⟨2, _⟩ => ⟨S32, .i32⟩
  | .hbm, ⟨3, _⟩ => ⟨S32, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S1, .i1⟩
  | .hbm, ⟨20, _⟩ => ⟨S1, .i1⟩
  | .hbm, ⟨21, _⟩ => ⟨S1, .i1⟩
  | .hbm, ⟨22, _⟩ => ⟨S_, .i1⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S1, .i1⟩
  | .hbm, ⟨38, _⟩ => ⟨S1, .i1⟩
  | .hbm, ⟨39, _⟩ => ⟨S1, .i1⟩
  | .hbm, ⟨40, _⟩ => ⟨S_, .i1⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S1, .i32⟩
  | .hbm, ⟨46, _⟩ => ⟨S2048x2048, .f32⟩
  | .local _ .vmem, ⟨0, _⟩ => ⟨S2048x64, .f32⟩
  | .local _ .vmem, ⟨1, _⟩ => ⟨S64x2048, .f32⟩
  | .local _ .vmem, ⟨2, _⟩ => ⟨S2048x2048, .f32⟩
  | .local _ .vmem, ⟨3, _⟩ => ⟨S32x64x2048, .bf16⟩
  | .local _ .vmem, ⟨4, _⟩ => ⟨S32x64x2048, .bf16⟩
  | .local _ .smem, ⟨0, _⟩ => ⟨S1, .i32⟩
  | .local _ .smem, ⟨1, _⟩ => ⟨S1, .i32⟩
  | _, _ => ⟨S2048x64, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 261 → Bool
  | ⟨i, _⟩ => dmaSemScopedAt i

abbrev sig : RefSig :=
  (ofTc nBuf bufTy 1 261 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_c : Ref sig .tc := ⟨.hbm, 10, rfl⟩
abbrev main_call0_v0 : Ref sig .tc := ⟨.hbm, 11, rfl⟩
abbrev main_call0_c_0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_c_1 : Ref sig .tc := ⟨.hbm, 16, rfl⟩
abbrev main_call0_c_2 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_c_3 : Ref sig .tc := ⟨.hbm, 22, rfl⟩
abbrev main_call0_v8 : Ref sig .tc := ⟨.hbm, 23, rfl⟩
abbrev main_call0_v9 : Ref sig .tc := ⟨.hbm, 24, rfl⟩
abbrev main_call0_c_4 : Ref sig .tc := ⟨.hbm, 25, rfl⟩
abbrev main_v5 : Ref sig .tc := ⟨.hbm, 26, rfl⟩
abbrev main_v6 : Ref sig .tc := ⟨.hbm, 27, rfl⟩
abbrev main_call1_c : Ref sig .tc := ⟨.hbm, 28, rfl⟩
abbrev main_call1_v0 : Ref sig .tc := ⟨.hbm, 29, rfl⟩
abbrev main_call1_c_0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_c_1 : Ref sig .tc := ⟨.hbm, 34, rfl⟩
abbrev main_call1_c_2 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_c_3 : Ref sig .tc := ⟨.hbm, 40, rfl⟩
abbrev main_call1_v8 : Ref sig .tc := ⟨.hbm, 41, rfl⟩
abbrev main_call1_v9 : Ref sig .tc := ⟨.hbm, 42, rfl⟩
abbrev main_call1_c_4 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (v1 : BitVec 32) : Nat :=
  let c0_i32 : BitVec 32 := 0#32
  let c1_i32_1 : BitVec 32 := 1#32
  let v3 : BitVec 32 := Scalar.muli v1 c1_i32_1
  let v4 : BitVec 32 := Scalar.addi c0_i32 v3
  v4.toNat

def k0_dev2 (v0 : BitVec 32) : Nat :=
  let c0_i32_4 : BitVec 32 := 0#32
  let c1_i32_3 : BitVec 32 := 1#32
  let v5 : BitVec 32 := Scalar.muli v0 c1_i32_3
  let v6 : BitVec 32 := Scalar.addi c0_i32_4 v5
  v6.toNat

def k0_dev3 (v0 : BitVec 32) : Nat :=
  let c0_i32_22 : BitVec 32 := 0#32
  let c1_i32_21 : BitVec 32 := 1#32
  let v20 : BitVec 32 := Scalar.muli v0 c1_i32_21
  let v21 : BitVec 32 := Scalar.addi c0_i32_22 v20
  v21.toNat
def k0_dev4 (v0 : BitVec 32) : Nat :=
  let c0_i32_34 : BitVec 32 := 0#32
  let c1_i32_33 : BitVec 32 := 1#32
  let v30 : BitVec 32 := Scalar.muli v0 c1_i32_33
  let v31 : BitVec 32 := Scalar.addi c0_i32_34 v30
  v31.toNat
def k0_dev5 (v1 : BitVec 32) : Nat :=
  let c0_i32_44 : BitVec 32 := 0#32
  let c1_i32_43 : BitVec 32 := 1#32
  let v40 : BitVec 32 := Scalar.muli v1 c1_i32_43
  let v41 : BitVec 32 := Scalar.addi c0_i32_44 v40
  v41.toNat
def k0_dev6 (v1 : BitVec 32) : Nat :=
  let c0_i32_56 : BitVec 32 := 0#32
  let c1_i32_55 : BitVec 32 := 1#32
  let v50 : BitVec 32 := Scalar.muli v1 c1_i32_55
  let v51 : BitVec 32 := Scalar.addi c0_i32_56 v50
  v51.toNat
def k0_dev7 (v0 : BitVec 32) : Nat :=
  let c0_i32_68 : BitVec 32 := 0#32
  let c1_i32_67 : BitVec 32 := 1#32
  let v60 : BitVec 32 := Scalar.muli v0 c1_i32_67
  let v61 : BitVec 32 := Scalar.addi c0_i32_68 v60
  v61.toNat
def k0_dev8 (v0 : BitVec 32) : Nat :=
  let c0_i32_79 : BitVec 32 := 0#32
  let c1_i32_78 : BitVec 32 := 1#32
  let v70 : BitVec 32 := Scalar.muli v0 c1_i32_78
  let v71 : BitVec 32 := Scalar.addi c0_i32_79 v70
  v71.toNat
def k0_dev9 (v1 : BitVec 32) : Nat :=
  let c0_i32_91 : BitVec 32 := 0#32
  let c1_i32_90 : BitVec 32 := 1#32
  let v80 : BitVec 32 := Scalar.muli v1 c1_i32_90
  let v81 : BitVec 32 := Scalar.addi c0_i32_91 v80
  v81.toNat
def k0_dev10 (v1 : BitVec 32) : Nat :=
  let c0_i32_103 : BitVec 32 := 0#32
  let c1_i32_102 : BitVec 32 := 1#32
  let v90 : BitVec 32 := Scalar.muli v1 c1_i32_102
  let v91 : BitVec 32 := Scalar.addi c0_i32_103 v90
  v91.toNat
def k0_dev11 (v0 : BitVec 32) : Nat :=
  let c0_i32_127 : BitVec 32 := 0#32
  let c1_i32_126 : BitVec 32 := 1#32
  let v108 : BitVec 32 := Scalar.muli v0 c1_i32_126
  let v109 : BitVec 32 := Scalar.addi c0_i32_127 v108
  v109.toNat
def k0_dev12 (v0 : BitVec 32) : Nat :=
  let c0_i32_151 : BitVec 32 := 0#32
  let c1_i32_150 : BitVec 32 := 1#32
  let v126 : BitVec 32 := Scalar.muli v0 c1_i32_150
  let v127 : BitVec 32 := Scalar.addi c0_i32_151 v126
  v127.toNat
def k0_dev13 (v1 : BitVec 32) : Nat :=
  let c0_i32_173 : BitVec 32 := 0#32
  let c1_i32_172 : BitVec 32 := 1#32
  let v144 : BitVec 32 := Scalar.muli v1 c1_i32_172
  let v145 : BitVec 32 := Scalar.addi c0_i32_173 v144
  v145.toNat
def k0_dev14 (v1 : BitVec 32) : Nat :=
  let c0_i32_197 : BitVec 32 := 0#32
  let c1_i32_196 : BitVec 32 := 1#32
  let v162 : BitVec 32 := Scalar.muli v1 c1_i32_196
  let v163 : BitVec 32 := Scalar.addi c0_i32_197 v162
  v163.toNat
def k0_dev15 (v0 : BitVec 32) : Nat :=
  let c0_i32_221 : BitVec 32 := 0#32
  let c1_i32_220 : BitVec 32 := 1#32
  let v180 : BitVec 32 := Scalar.muli v0 c1_i32_220
  let v181 : BitVec 32 := Scalar.addi c0_i32_221 v180
  v181.toNat
def k0_dev16 (v0 : BitVec 32) : Nat :=
  let c0_i32_245 : BitVec 32 := 0#32
  let c1_i32_244 : BitVec 32 := 1#32
  let v198 : BitVec 32 := Scalar.muli v0 c1_i32_244
  let v199 : BitVec 32 := Scalar.addi c0_i32_245 v198
  v199.toNat
def k0_dev17 (v1 : BitVec 32) : Nat :=
  let c0_i32_269 : BitVec 32 := 0#32
  let c1_i32_268 : BitVec 32 := 1#32
  let v216 : BitVec 32 := Scalar.muli v1 c1_i32_268
  let v217 : BitVec 32 := Scalar.addi c0_i32_269 v216
  v217.toNat
def k0_dev18 (v1 : BitVec 32) : Nat :=
  let c0_i32_293 : BitVec 32 := 0#32
  let c1_i32_292 : BitVec 32 := 1#32
  let v234 : BitVec 32 := Scalar.muli v1 c1_i32_292
  let v235 : BitVec 32 := Scalar.addi c0_i32_293 v234
  v235.toNat
def k0_dev19 (v0 : BitVec 32) : Nat :=
  let c0_i32_316 : BitVec 32 := 0#32
  let c1_i32_315 : BitVec 32 := 1#32
  let v252 : BitVec 32 := Scalar.muli v0 c1_i32_315
  let v253 : BitVec 32 := Scalar.addi c0_i32_316 v252
  v253.toNat
def k0_dev20 (v0 : BitVec 32) : Nat :=
  let c0_i32_340 : BitVec 32 := 0#32
  let c1_i32_339 : BitVec 32 := 1#32
  let v270 : BitVec 32 := Scalar.muli v0 c1_i32_339
  let v271 : BitVec 32 := Scalar.addi c0_i32_340 v270
  v271.toNat
def k0_dev21 (v1 : BitVec 32) : Nat :=
  let c0_i32_362 : BitVec 32 := 0#32
  let c1_i32_361 : BitVec 32 := 1#32
  let v288 : BitVec 32 := Scalar.muli v1 c1_i32_361
  let v289 : BitVec 32 := Scalar.addi c0_i32_362 v288
  v289.toNat
def k0_dev22 (v1 : BitVec 32) : Nat :=
  let c0_i32_386 : BitVec 32 := 0#32
  let c1_i32_385 : BitVec 32 := 1#32
  let v306 : BitVec 32 := Scalar.muli v1 c1_i32_385
  let v307 : BitVec 32 := Scalar.addi c0_i32_386 v306
  v307.toNat
def k0_dev23 (v0 : BitVec 32) : Nat :=
  let c0_i32_410 : BitVec 32 := 0#32
  let c1_i32_409 : BitVec 32 := 1#32
  let v324 : BitVec 32 := Scalar.muli v0 c1_i32_409
  let v325 : BitVec 32 := Scalar.addi c0_i32_410 v324
  v325.toNat
def k0_dev24 (v0 : BitVec 32) : Nat :=
  let c0_i32_434 : BitVec 32 := 0#32
  let c1_i32_433 : BitVec 32 := 1#32
  let v342 : BitVec 32 := Scalar.muli v0 c1_i32_433
  let v343 : BitVec 32 := Scalar.addi c0_i32_434 v342
  v343.toNat
def k0_dev25 (v1 : BitVec 32) : Nat :=
  let c0_i32_458 : BitVec 32 := 0#32
  let c1_i32_457 : BitVec 32 := 1#32
  let v360 : BitVec 32 := Scalar.muli v1 c1_i32_457
  let v361 : BitVec 32 := Scalar.addi c0_i32_458 v360
  v361.toNat
def k0_dev26 (v1 : BitVec 32) : Nat :=
  let c0_i32_482 : BitVec 32 := 0#32
  let c1_i32_481 : BitVec 32 := 1#32
  let v378 : BitVec 32 := Scalar.muli v1 c1_i32_481
  let v379 : BitVec 32 := Scalar.addi c0_i32_482 v378
  v379.toNat
def k0_dev27 (v0 : BitVec 32) : Nat :=
  let c0_i32_505 : BitVec 32 := 0#32
  let c1_i32_504 : BitVec 32 := 1#32
  let v396 : BitVec 32 := Scalar.muli v0 c1_i32_504
  let v397 : BitVec 32 := Scalar.addi c0_i32_505 v396
  v397.toNat
def k0_dev28 (v0 : BitVec 32) : Nat :=
  let c0_i32_529 : BitVec 32 := 0#32
  let c1_i32_528 : BitVec 32 := 1#32
  let v414 : BitVec 32 := Scalar.muli v0 c1_i32_528
  let v415 : BitVec 32 := Scalar.addi c0_i32_529 v414
  v415.toNat
def k0_dev29 (v1 : BitVec 32) : Nat :=
  let c0_i32_551 : BitVec 32 := 0#32
  let c1_i32_550 : BitVec 32 := 1#32
  let v432 : BitVec 32 := Scalar.muli v1 c1_i32_550
  let v433 : BitVec 32 := Scalar.addi c0_i32_551 v432
  v433.toNat
def k0_dev30 (v1 : BitVec 32) : Nat :=
  let c0_i32_575 : BitVec 32 := 0#32
  let c1_i32_574 : BitVec 32 := 1#32
  let v450 : BitVec 32 := Scalar.muli v1 c1_i32_574
  let v451 : BitVec 32 := Scalar.addi c0_i32_575 v450
  v451.toNat
def k0_dev31 (v0 : BitVec 32) : Nat :=
  let c0_i32_599 : BitVec 32 := 0#32
  let c1_i32_598 : BitVec 32 := 1#32
  let v468 : BitVec 32 := Scalar.muli v0 c1_i32_598
  let v469 : BitVec 32 := Scalar.addi c0_i32_599 v468
  v469.toNat
def k0_dev32 (v0 : BitVec 32) : Nat :=
  let c0_i32_623 : BitVec 32 := 0#32
  let c1_i32_622 : BitVec 32 := 1#32
  let v486 : BitVec 32 := Scalar.muli v0 c1_i32_622
  let v487 : BitVec 32 := Scalar.addi c0_i32_623 v486
  v487.toNat
def k0_dev33 (v1 : BitVec 32) : Nat :=
  let c0_i32_647 : BitVec 32 := 0#32
  let c1_i32_646 : BitVec 32 := 1#32
  let v504 : BitVec 32 := Scalar.muli v1 c1_i32_646
  let v505 : BitVec 32 := Scalar.addi c0_i32_647 v504
  v505.toNat
def k0_dev34 (v1 : BitVec 32) : Nat :=
  let c0_i32_671 : BitVec 32 := 0#32
  let c1_i32_670 : BitVec 32 := 1#32
  let v522 : BitVec 32 := Scalar.muli v1 c1_i32_670
  let v523 : BitVec 32 := Scalar.addi c0_i32_671 v522
  v523.toNat
def k0_dev35 (v0 : BitVec 32) : Nat :=
  let c0_i32_694 : BitVec 32 := 0#32
  let c1_i32_693 : BitVec 32 := 1#32
  let v540 : BitVec 32 := Scalar.muli v0 c1_i32_693
  let v541 : BitVec 32 := Scalar.addi c0_i32_694 v540
  v541.toNat
def k0_dev36 (v0 : BitVec 32) : Nat :=
  let c0_i32_718 : BitVec 32 := 0#32
  let c1_i32_717 : BitVec 32 := 1#32
  let v558 : BitVec 32 := Scalar.muli v0 c1_i32_717
  let v559 : BitVec 32 := Scalar.addi c0_i32_718 v558
  v559.toNat
def k0_dev37 (v1 : BitVec 32) : Nat :=
  let c0_i32_740 : BitVec 32 := 0#32
  let c1_i32_739 : BitVec 32 := 1#32
  let v576 : BitVec 32 := Scalar.muli v1 c1_i32_739
  let v577 : BitVec 32 := Scalar.addi c0_i32_740 v576
  v577.toNat
def k0_dev38 (v1 : BitVec 32) : Nat :=
  let c0_i32_764 : BitVec 32 := 0#32
  let c1_i32_763 : BitVec 32 := 1#32
  let v594 : BitVec 32 := Scalar.muli v1 c1_i32_763
  let v595 : BitVec 32 := Scalar.addi c0_i32_764 v594
  v595.toNat
def k0_dev39 (v0 : BitVec 32) : Nat :=
  let c0_i32_788 : BitVec 32 := 0#32
  let c1_i32_787 : BitVec 32 := 1#32
  let v612 : BitVec 32 := Scalar.muli v0 c1_i32_787
  let v613 : BitVec 32 := Scalar.addi c0_i32_788 v612
  v613.toNat
def k0_dev40 (v0 : BitVec 32) : Nat :=
  let c0_i32_812 : BitVec 32 := 0#32
  let c1_i32_811 : BitVec 32 := 1#32
  let v630 : BitVec 32 := Scalar.muli v0 c1_i32_811
  let v631 : BitVec 32 := Scalar.addi c0_i32_812 v630
  v631.toNat
def k0_dev41 (v1 : BitVec 32) : Nat :=
  let c0_i32_836 : BitVec 32 := 0#32
  let c1_i32_835 : BitVec 32 := 1#32
  let v648 : BitVec 32 := Scalar.muli v1 c1_i32_835
  let v649 : BitVec 32 := Scalar.addi c0_i32_836 v648
  v649.toNat
def k0_dev42 (v1 : BitVec 32) : Nat :=
  let c0_i32_860 : BitVec 32 := 0#32
  let c1_i32_859 : BitVec 32 := 1#32
  let v666 : BitVec 32 := Scalar.muli v1 c1_i32_859
  let v667 : BitVec 32 := Scalar.addi c0_i32_860 v666
  v667.toNat
def k0_dev43 (v0 : BitVec 32) : Nat :=
  let c0_i32_883 : BitVec 32 := 0#32
  let c1_i32_882 : BitVec 32 := 1#32
  let v684 : BitVec 32 := Scalar.muli v0 c1_i32_882
  let v685 : BitVec 32 := Scalar.addi c0_i32_883 v684
  v685.toNat
def k0_dev44 (v0 : BitVec 32) : Nat :=
  let c0_i32_907 : BitVec 32 := 0#32
  let c1_i32_906 : BitVec 32 := 1#32
  let v702 : BitVec 32 := Scalar.muli v0 c1_i32_906
  let v703 : BitVec 32 := Scalar.addi c0_i32_907 v702
  v703.toNat
def k0_dev45 (v1 : BitVec 32) : Nat :=
  let c0_i32_929 : BitVec 32 := 0#32
  let c1_i32_928 : BitVec 32 := 1#32
  let v720 : BitVec 32 := Scalar.muli v1 c1_i32_928
  let v721 : BitVec 32 := Scalar.addi c0_i32_929 v720
  v721.toNat
def k0_dev46 (v1 : BitVec 32) : Nat :=
  let c0_i32_953 : BitVec 32 := 0#32
  let c1_i32_952 : BitVec 32 := 1#32
  let v738 : BitVec 32 := Scalar.muli v1 c1_i32_952
  let v739 : BitVec 32 := Scalar.addi c0_i32_953 v738
  v739.toNat
def k0_dev47 (v0 : BitVec 32) : Nat :=
  let c0_i32_977 : BitVec 32 := 0#32
  let c1_i32_976 : BitVec 32 := 1#32
  let v756 : BitVec 32 := Scalar.muli v0 c1_i32_976
  let v757 : BitVec 32 := Scalar.addi c0_i32_977 v756
  v757.toNat
def k0_dev48 (v0 : BitVec 32) : Nat :=
  let c0_i32_1001 : BitVec 32 := 0#32
  let c1_i32_1000 : BitVec 32 := 1#32
  let v774 : BitVec 32 := Scalar.muli v0 c1_i32_1000
  let v775 : BitVec 32 := Scalar.addi c0_i32_1001 v774
  v775.toNat
def k0_dev49 (v1 : BitVec 32) : Nat :=
  let c0_i32_1025 : BitVec 32 := 0#32
  let c1_i32_1024 : BitVec 32 := 1#32
  let v792 : BitVec 32 := Scalar.muli v1 c1_i32_1024
  let v793 : BitVec 32 := Scalar.addi c0_i32_1025 v792
  v793.toNat
def k0_dev50 (v1 : BitVec 32) : Nat :=
  let c0_i32_1049 : BitVec 32 := 0#32
  let c1_i32_1048 : BitVec 32 := 1#32
  let v810 : BitVec 32 := Scalar.muli v1 c1_i32_1048
  let v811 : BitVec 32 := Scalar.addi c0_i32_1049 v810
  v811.toNat
def k0_dev51 (v0 : BitVec 32) : Nat :=
  let c0_i32_1072 : BitVec 32 := 0#32
  let c1_i32_1071 : BitVec 32 := 1#32
  let v828 : BitVec 32 := Scalar.muli v0 c1_i32_1071
  let v829 : BitVec 32 := Scalar.addi c0_i32_1072 v828
  v829.toNat
def k0_dev52 (v0 : BitVec 32) : Nat :=
  let c0_i32_1096 : BitVec 32 := 0#32
  let c1_i32_1095 : BitVec 32 := 1#32
  let v846 : BitVec 32 := Scalar.muli v0 c1_i32_1095
  let v847 : BitVec 32 := Scalar.addi c0_i32_1096 v846
  v847.toNat
def k0_dev53 (v1 : BitVec 32) : Nat :=
  let c0_i32_1118 : BitVec 32 := 0#32
  let c1_i32_1117 : BitVec 32 := 1#32
  let v864 : BitVec 32 := Scalar.muli v1 c1_i32_1117
  let v865 : BitVec 32 := Scalar.addi c0_i32_1118 v864
  v865.toNat
def k0_dev54 (v1 : BitVec 32) : Nat :=
  let c0_i32_1142 : BitVec 32 := 0#32
  let c1_i32_1141 : BitVec 32 := 1#32
  let v882 : BitVec 32 := Scalar.muli v1 c1_i32_1141
  let v883 : BitVec 32 := Scalar.addi c0_i32_1142 v882
  v883.toNat
def k0_dev55 (v0 : BitVec 32) : Nat :=
  let c0_i32_1166 : BitVec 32 := 0#32
  let c1_i32_1165 : BitVec 32 := 1#32
  let v900 : BitVec 32 := Scalar.muli v0 c1_i32_1165
  let v901 : BitVec 32 := Scalar.addi c0_i32_1166 v900
  v901.toNat
def k0_dev56 (v0 : BitVec 32) : Nat :=
  let c0_i32_1190 : BitVec 32 := 0#32
  let c1_i32_1189 : BitVec 32 := 1#32
  let v918 : BitVec 32 := Scalar.muli v0 c1_i32_1189
  let v919 : BitVec 32 := Scalar.addi c0_i32_1190 v918
  v919.toNat
def k0_dev57 (v1 : BitVec 32) : Nat :=
  let c0_i32_1214 : BitVec 32 := 0#32
  let c1_i32_1213 : BitVec 32 := 1#32
  let v936 : BitVec 32 := Scalar.muli v1 c1_i32_1213
  let v937 : BitVec 32 := Scalar.addi c0_i32_1214 v936
  v937.toNat
def k0_dev58 (v1 : BitVec 32) : Nat :=
  let c0_i32_1238 : BitVec 32 := 0#32
  let c1_i32_1237 : BitVec 32 := 1#32
  let v954 : BitVec 32 := Scalar.muli v1 c1_i32_1237
  let v955 : BitVec 32 := Scalar.addi c0_i32_1238 v954
  v955.toNat
def k0_dev59 (v0 : BitVec 32) : Nat :=
  let c0_i32_1261 : BitVec 32 := 0#32
  let c1_i32_1260 : BitVec 32 := 1#32
  let v972 : BitVec 32 := Scalar.muli v0 c1_i32_1260
  let v973 : BitVec 32 := Scalar.addi c0_i32_1261 v972
  v973.toNat
def k0_dev60 (v0 : BitVec 32) : Nat :=
  let c0_i32_1285 : BitVec 32 := 0#32
  let c1_i32_1284 : BitVec 32 := 1#32
  let v990 : BitVec 32 := Scalar.muli v0 c1_i32_1284
  let v991 : BitVec 32 := Scalar.addi c0_i32_1285 v990
  v991.toNat
def k0_dev61 (v1 : BitVec 32) : Nat :=
  let c0_i32_1307 : BitVec 32 := 0#32
  let c1_i32_1306 : BitVec 32 := 1#32
  let v1008 : BitVec 32 := Scalar.muli v1 c1_i32_1306
  let v1009 : BitVec 32 := Scalar.addi c0_i32_1307 v1008
  v1009.toNat
def k0_dev62 (v1 : BitVec 32) : Nat :=
  let c0_i32_1331 : BitVec 32 := 0#32
  let c1_i32_1330 : BitVec 32 := 1#32
  let v1026 : BitVec 32 := Scalar.muli v1 c1_i32_1330
  let v1027 : BitVec 32 := Scalar.addi c0_i32_1331 v1026
  v1027.toNat
def k0_dev63 (v0 : BitVec 32) : Nat :=
  let c0_i32_1355 : BitVec 32 := 0#32
  let c1_i32_1354 : BitVec 32 := 1#32
  let v1044 : BitVec 32 := Scalar.muli v0 c1_i32_1354
  let v1045 : BitVec 32 := Scalar.addi c0_i32_1355 v1044
  v1045.toNat
def k0_dev64 (v0 : BitVec 32) : Nat :=
  let c0_i32_1379 : BitVec 32 := 0#32
  let c1_i32_1378 : BitVec 32 := 1#32
  let v1062 : BitVec 32 := Scalar.muli v0 c1_i32_1378
  let v1063 : BitVec 32 := Scalar.addi c0_i32_1379 v1062
  v1063.toNat
def k0_dev65 (v1 : BitVec 32) : Nat :=
  let c0_i32_1403 : BitVec 32 := 0#32
  let c1_i32_1402 : BitVec 32 := 1#32
  let v1080 : BitVec 32 := Scalar.muli v1 c1_i32_1402
  let v1081 : BitVec 32 := Scalar.addi c0_i32_1403 v1080
  v1081.toNat
def k0_dev66 (v1 : BitVec 32) : Nat :=
  let c0_i32_1427 : BitVec 32 := 0#32
  let c1_i32_1426 : BitVec 32 := 1#32
  let v1098 : BitVec 32 := Scalar.muli v1 c1_i32_1426
  let v1099 : BitVec 32 := Scalar.addi c0_i32_1427 v1098
  v1099.toNat
def k0_dev67 (v0 : BitVec 32) : Nat :=
  let c0_i32_1450 : BitVec 32 := 0#32
  let c1_i32_1449 : BitVec 32 := 1#32
  let v1116 : BitVec 32 := Scalar.muli v0 c1_i32_1449
  let v1117 : BitVec 32 := Scalar.addi c0_i32_1450 v1116
  v1117.toNat
def k0_dev68 (v0 : BitVec 32) : Nat :=
  let c0_i32_1474 : BitVec 32 := 0#32
  let c1_i32_1473 : BitVec 32 := 1#32
  let v1134 : BitVec 32 := Scalar.muli v0 c1_i32_1473
  let v1135 : BitVec 32 := Scalar.addi c0_i32_1474 v1134
  v1135.toNat
def k0_dev69 (v1 : BitVec 32) : Nat :=
  let c0_i32_1498 : BitVec 32 := 0#32
  let c1_i32_1497 : BitVec 32 := 1#32
  let v1152 : BitVec 32 := Scalar.muli v1 c1_i32_1497
  let v1153 : BitVec 32 := Scalar.addi c0_i32_1498 v1152
  v1153.toNat
def k0_dev70 (v1 : BitVec 32) : Nat :=
  let c0_i32_1522 : BitVec 32 := 0#32
  let c1_i32_1521 : BitVec 32 := 1#32
  let v1170 : BitVec 32 := Scalar.muli v1 c1_i32_1521
  let v1171 : BitVec 32 := Scalar.addi c0_i32_1522 v1170
  v1171.toNat
def k0_dev71 (v0 : BitVec 32) : Nat :=
  let c0_i32_1546 : BitVec 32 := 0#32
  let c1_i32_1545 : BitVec 32 := 1#32
  let v1188 : BitVec 32 := Scalar.muli v0 c1_i32_1545
  let v1189 : BitVec 32 := Scalar.addi c0_i32_1546 v1188
  v1189.toNat
def k0_dev72 (v0 : BitVec 32) : Nat :=
  let c0_i32_1570 : BitVec 32 := 0#32
  let c1_i32_1569 : BitVec 32 := 1#32
  let v1206 : BitVec 32 := Scalar.muli v0 c1_i32_1569
  let v1207 : BitVec 32 := Scalar.addi c0_i32_1570 v1206
  v1207.toNat
def k0_dev73 (v1 : BitVec 32) : Nat :=
  let c0_i32_1594 : BitVec 32 := 0#32
  let c1_i32_1593 : BitVec 32 := 1#32
  let v1224 : BitVec 32 := Scalar.muli v1 c1_i32_1593
  let v1225 : BitVec 32 := Scalar.addi c0_i32_1594 v1224
  v1225.toNat
def k0_dev74 (v1 : BitVec 32) : Nat :=
  let c0_i32_1618 : BitVec 32 := 0#32
  let c1_i32_1617 : BitVec 32 := 1#32
  let v1242 : BitVec 32 := Scalar.muli v1 c1_i32_1617
  let v1243 : BitVec 32 := Scalar.addi c0_i32_1618 v1242
  v1243.toNat
def k0_dev75 (v0 : BitVec 32) : Nat :=
  let c0_i32_1641 : BitVec 32 := 0#32
  let c1_i32_1640 : BitVec 32 := 1#32
  let v1260 : BitVec 32 := Scalar.muli v0 c1_i32_1640
  let v1261 : BitVec 32 := Scalar.addi c0_i32_1641 v1260
  v1261.toNat
def k0_dev76 (v0 : BitVec 32) : Nat :=
  let c0_i32_1665 : BitVec 32 := 0#32
  let c1_i32_1664 : BitVec 32 := 1#32
  let v1278 : BitVec 32 := Scalar.muli v0 c1_i32_1664
  let v1279 : BitVec 32 := Scalar.addi c0_i32_1665 v1278
  v1279.toNat
def k0_dev77 (v1 : BitVec 32) : Nat :=
  let c0_i32_1689 : BitVec 32 := 0#32
  let c1_i32_1688 : BitVec 32 := 1#32
  let v1296 : BitVec 32 := Scalar.muli v1 c1_i32_1688
  let v1297 : BitVec 32 := Scalar.addi c0_i32_1689 v1296
  v1297.toNat
def k0_dev78 (v1 : BitVec 32) : Nat :=
  let c0_i32_1713 : BitVec 32 := 0#32
  let c1_i32_1712 : BitVec 32 := 1#32
  let v1314 : BitVec 32 := Scalar.muli v1 c1_i32_1712
  let v1315 : BitVec 32 := Scalar.addi c0_i32_1713 v1314
  v1315.toNat
def k0_dev79 (v0 : BitVec 32) : Nat :=
  let c0_i32_1737 : BitVec 32 := 0#32
  let c1_i32_1736 : BitVec 32 := 1#32
  let v1332 : BitVec 32 := Scalar.muli v0 c1_i32_1736
  let v1333 : BitVec 32 := Scalar.addi c0_i32_1737 v1332
  v1333.toNat
def k0_dev80 (v0 : BitVec 32) : Nat :=
  let c0_i32_1761 : BitVec 32 := 0#32
  let c1_i32_1760 : BitVec 32 := 1#32
  let v1350 : BitVec 32 := Scalar.muli v0 c1_i32_1760
  let v1351 : BitVec 32 := Scalar.addi c0_i32_1761 v1350
  v1351.toNat
def k0_dev81 (v1 : BitVec 32) : Nat :=
  let c0_i32_1785 : BitVec 32 := 0#32
  let c1_i32_1784 : BitVec 32 := 1#32
  let v1368 : BitVec 32 := Scalar.muli v1 c1_i32_1784
  let v1369 : BitVec 32 := Scalar.addi c0_i32_1785 v1368
  v1369.toNat
def k0_dev82 (v1 : BitVec 32) : Nat :=
  let c0_i32_1809 : BitVec 32 := 0#32
  let c1_i32_1808 : BitVec 32 := 1#32
  let v1386 : BitVec 32 := Scalar.muli v1 c1_i32_1808
  let v1387 : BitVec 32 := Scalar.addi c0_i32_1809 v1386
  v1387.toNat
def k0_dev83 (v0 : BitVec 32) : Nat :=
  let c0_i32_1832 : BitVec 32 := 0#32
  let c1_i32_1831 : BitVec 32 := 1#32
  let v1404 : BitVec 32 := Scalar.muli v0 c1_i32_1831
  let v1405 : BitVec 32 := Scalar.addi c0_i32_1832 v1404
  v1405.toNat
def k0_dev84 (v0 : BitVec 32) : Nat :=
  let c0_i32_1856 : BitVec 32 := 0#32
  let c1_i32_1855 : BitVec 32 := 1#32
  let v1422 : BitVec 32 := Scalar.muli v0 c1_i32_1855
  let v1423 : BitVec 32 := Scalar.addi c0_i32_1856 v1422
  v1423.toNat
def k0_dev85 (v1 : BitVec 32) : Nat :=
  let c0_i32_1880 : BitVec 32 := 0#32
  let c1_i32_1879 : BitVec 32 := 1#32
  let v1440 : BitVec 32 := Scalar.muli v1 c1_i32_1879
  let v1441 : BitVec 32 := Scalar.addi c0_i32_1880 v1440
  v1441.toNat
def k0_dev86 (v1 : BitVec 32) : Nat :=
  let c0_i32_1904 : BitVec 32 := 0#32
  let c1_i32_1903 : BitVec 32 := 1#32
  let v1458 : BitVec 32 := Scalar.muli v1 c1_i32_1903
  let v1459 : BitVec 32 := Scalar.addi c0_i32_1904 v1458
  v1459.toNat
def k0_dev87 (v0 : BitVec 32) : Nat :=
  let c0_i32_1928 : BitVec 32 := 0#32
  let c1_i32_1927 : BitVec 32 := 1#32
  let v1476 : BitVec 32 := Scalar.muli v0 c1_i32_1927
  let v1477 : BitVec 32 := Scalar.addi c0_i32_1928 v1476
  v1477.toNat
def k0_dev88 (v0 : BitVec 32) : Nat :=
  let c0_i32_1952 : BitVec 32 := 0#32
  let c1_i32_1951 : BitVec 32 := 1#32
  let v1494 : BitVec 32 := Scalar.muli v0 c1_i32_1951
  let v1495 : BitVec 32 := Scalar.addi c0_i32_1952 v1494
  v1495.toNat
def k0_dev89 (v1 : BitVec 32) : Nat :=
  let c0_i32_1976 : BitVec 32 := 0#32
  let c1_i32_1975 : BitVec 32 := 1#32
  let v1512 : BitVec 32 := Scalar.muli v1 c1_i32_1975
  let v1513 : BitVec 32 := Scalar.addi c0_i32_1976 v1512
  v1513.toNat
def k0_dev90 (v1 : BitVec 32) : Nat :=
  let c0_i32_2000 : BitVec 32 := 0#32
  let c1_i32_1999 : BitVec 32 := 1#32
  let v1530 : BitVec 32 := Scalar.muli v1 c1_i32_1999
  let v1531 : BitVec 32 := Scalar.addi c0_i32_2000 v1530
  v1531.toNat
def k0_dev91 (v0 : BitVec 32) : Nat :=
  let c0_i32_2023 : BitVec 32 := 0#32
  let c1_i32_2022 : BitVec 32 := 1#32
  let v1548 : BitVec 32 := Scalar.muli v0 c1_i32_2022
  let v1549 : BitVec 32 := Scalar.addi c0_i32_2023 v1548
  v1549.toNat
def k0_dev92 (v0 : BitVec 32) : Nat :=
  let c0_i32_2047 : BitVec 32 := 0#32
  let c1_i32_2046 : BitVec 32 := 1#32
  let v1566 : BitVec 32 := Scalar.muli v0 c1_i32_2046
  let v1567 : BitVec 32 := Scalar.addi c0_i32_2047 v1566
  v1567.toNat
def k0_dev93 (v1 : BitVec 32) : Nat :=
  let c0_i32_2071 : BitVec 32 := 0#32
  let c1_i32_2070 : BitVec 32 := 1#32
  let v1584 : BitVec 32 := Scalar.muli v1 c1_i32_2070
  let v1585 : BitVec 32 := Scalar.addi c0_i32_2071 v1584
  v1585.toNat
def k0_dev94 (v1 : BitVec 32) : Nat :=
  let c0_i32_2095 : BitVec 32 := 0#32
  let c1_i32_2094 : BitVec 32 := 1#32
  let v1602 : BitVec 32 := Scalar.muli v1 c1_i32_2094
  let v1603 : BitVec 32 := Scalar.addi c0_i32_2095 v1602
  v1603.toNat
def k0_dev95 (v0 : BitVec 32) : Nat :=
  let c0_i32_2119 : BitVec 32 := 0#32
  let c1_i32_2118 : BitVec 32 := 1#32
  let v1620 : BitVec 32 := Scalar.muli v0 c1_i32_2118
  let v1621 : BitVec 32 := Scalar.addi c0_i32_2119 v1620
  v1621.toNat
def k0_dev96 (v0 : BitVec 32) : Nat :=
  let c0_i32_2143 : BitVec 32 := 0#32
  let c1_i32_2142 : BitVec 32 := 1#32
  let v1638 : BitVec 32 := Scalar.muli v0 c1_i32_2142
  let v1639 : BitVec 32 := Scalar.addi c0_i32_2143 v1638
  v1639.toNat
def k0_dev97 (v1 : BitVec 32) : Nat :=
  let c0_i32_2167 : BitVec 32 := 0#32
  let c1_i32_2166 : BitVec 32 := 1#32
  let v1656 : BitVec 32 := Scalar.muli v1 c1_i32_2166
  let v1657 : BitVec 32 := Scalar.addi c0_i32_2167 v1656
  v1657.toNat
def k0_dev98 (v1 : BitVec 32) : Nat :=
  let c0_i32_2191 : BitVec 32 := 0#32
  let c1_i32_2190 : BitVec 32 := 1#32
  let v1674 : BitVec 32 := Scalar.muli v1 c1_i32_2190
  let v1675 : BitVec 32 := Scalar.addi c0_i32_2191 v1674
  v1675.toNat
def k0_dev99 (v0 : BitVec 32) : Nat :=
  let c0_i32_2214 : BitVec 32 := 0#32
  let c1_i32_2213 : BitVec 32 := 1#32
  let v1692 : BitVec 32 := Scalar.muli v0 c1_i32_2213
  let v1693 : BitVec 32 := Scalar.addi c0_i32_2214 v1692
  v1693.toNat
def k0_dev100 (v0 : BitVec 32) : Nat :=
  let c0_i32_2238 : BitVec 32 := 0#32
  let c1_i32_2237 : BitVec 32 := 1#32
  let v1710 : BitVec 32 := Scalar.muli v0 c1_i32_2237
  let v1711 : BitVec 32 := Scalar.addi c0_i32_2238 v1710
  v1711.toNat
def k0_dev101 (v1 : BitVec 32) : Nat :=
  let c0_i32_2262 : BitVec 32 := 0#32
  let c1_i32_2261 : BitVec 32 := 1#32
  let v1728 : BitVec 32 := Scalar.muli v1 c1_i32_2261
  let v1729 : BitVec 32 := Scalar.addi c0_i32_2262 v1728
  v1729.toNat
def k0_dev102 (v1 : BitVec 32) : Nat :=
  let c0_i32_2286 : BitVec 32 := 0#32
  let c1_i32_2285 : BitVec 32 := 1#32
  let v1746 : BitVec 32 := Scalar.muli v1 c1_i32_2285
  let v1747 : BitVec 32 := Scalar.addi c0_i32_2286 v1746
  v1747.toNat
def k0_dev103 (v0 : BitVec 32) : Nat :=
  let c0_i32_2310 : BitVec 32 := 0#32
  let c1_i32_2309 : BitVec 32 := 1#32
  let v1764 : BitVec 32 := Scalar.muli v0 c1_i32_2309
  let v1765 : BitVec 32 := Scalar.addi c0_i32_2310 v1764
  v1765.toNat
def k0_dev104 (v0 : BitVec 32) : Nat :=
  let c0_i32_2334 : BitVec 32 := 0#32
  let c1_i32_2333 : BitVec 32 := 1#32
  let v1782 : BitVec 32 := Scalar.muli v0 c1_i32_2333
  let v1783 : BitVec 32 := Scalar.addi c0_i32_2334 v1782
  v1783.toNat
def k0_dev105 (v1 : BitVec 32) : Nat :=
  let c0_i32_2358 : BitVec 32 := 0#32
  let c1_i32_2357 : BitVec 32 := 1#32
  let v1800 : BitVec 32 := Scalar.muli v1 c1_i32_2357
  let v1801 : BitVec 32 := Scalar.addi c0_i32_2358 v1800
  v1801.toNat
def k0_dev106 (v1 : BitVec 32) : Nat :=
  let c0_i32_2382 : BitVec 32 := 0#32
  let c1_i32_2381 : BitVec 32 := 1#32
  let v1818 : BitVec 32 := Scalar.muli v1 c1_i32_2381
  let v1819 : BitVec 32 := Scalar.addi c0_i32_2382 v1818
  v1819.toNat
def k0_dev107 (v0 : BitVec 32) : Nat :=
  let c0_i32_2405 : BitVec 32 := 0#32
  let c1_i32_2404 : BitVec 32 := 1#32
  let v1836 : BitVec 32 := Scalar.muli v0 c1_i32_2404
  let v1837 : BitVec 32 := Scalar.addi c0_i32_2405 v1836
  v1837.toNat
def k0_dev108 (v0 : BitVec 32) : Nat :=
  let c0_i32_2429 : BitVec 32 := 0#32
  let c1_i32_2428 : BitVec 32 := 1#32
  let v1854 : BitVec 32 := Scalar.muli v0 c1_i32_2428
  let v1855 : BitVec 32 := Scalar.addi c0_i32_2429 v1854
  v1855.toNat
def k0_dev109 (v1 : BitVec 32) : Nat :=
  let c0_i32_2453 : BitVec 32 := 0#32
  let c1_i32_2452 : BitVec 32 := 1#32
  let v1872 : BitVec 32 := Scalar.muli v1 c1_i32_2452
  let v1873 : BitVec 32 := Scalar.addi c0_i32_2453 v1872
  v1873.toNat
def k0_dev110 (v1 : BitVec 32) : Nat :=
  let c0_i32_2477 : BitVec 32 := 0#32
  let c1_i32_2476 : BitVec 32 := 1#32
  let v1890 : BitVec 32 := Scalar.muli v1 c1_i32_2476
  let v1891 : BitVec 32 := Scalar.addi c0_i32_2477 v1890
  v1891.toNat
def k0_dev111 (v0 : BitVec 32) : Nat :=
  let c0_i32_2501 : BitVec 32 := 0#32
  let c1_i32_2500 : BitVec 32 := 1#32
  let v1908 : BitVec 32 := Scalar.muli v0 c1_i32_2500
  let v1909 : BitVec 32 := Scalar.addi c0_i32_2501 v1908
  v1909.toNat
def k0_dev112 (v0 : BitVec 32) : Nat :=
  let c0_i32_2525 : BitVec 32 := 0#32
  let c1_i32_2524 : BitVec 32 := 1#32
  let v1926 : BitVec 32 := Scalar.muli v0 c1_i32_2524
  let v1927 : BitVec 32 := Scalar.addi c0_i32_2525 v1926
  v1927.toNat
def k0_dev113 (v1 : BitVec 32) : Nat :=
  let c0_i32_2549 : BitVec 32 := 0#32
  let c1_i32_2548 : BitVec 32 := 1#32
  let v1944 : BitVec 32 := Scalar.muli v1 c1_i32_2548
  let v1945 : BitVec 32 := Scalar.addi c0_i32_2549 v1944
  v1945.toNat
def k0_dev114 (v1 : BitVec 32) : Nat :=
  let c0_i32_2573 : BitVec 32 := 0#32
  let c1_i32_2572 : BitVec 32 := 1#32
  let v1962 : BitVec 32 := Scalar.muli v1 c1_i32_2572
  let v1963 : BitVec 32 := Scalar.addi c0_i32_2573 v1962
  v1963.toNat
def k0_dev115 (v0 : BitVec 32) : Nat :=
  let c0_i32_2596 : BitVec 32 := 0#32
  let c1_i32_2595 : BitVec 32 := 1#32
  let v1980 : BitVec 32 := Scalar.muli v0 c1_i32_2595
  let v1981 : BitVec 32 := Scalar.addi c0_i32_2596 v1980
  v1981.toNat
def k0_dev116 (v0 : BitVec 32) : Nat :=
  let c0_i32_2620 : BitVec 32 := 0#32
  let c1_i32_2619 : BitVec 32 := 1#32
  let v1998 : BitVec 32 := Scalar.muli v0 c1_i32_2619
  let v1999 : BitVec 32 := Scalar.addi c0_i32_2620 v1998
  v1999.toNat
def k0_dev117 (v1 : BitVec 32) : Nat :=
  let c0_i32_2644 : BitVec 32 := 0#32
  let c1_i32_2643 : BitVec 32 := 1#32
  let v2016 : BitVec 32 := Scalar.muli v1 c1_i32_2643
  let v2017 : BitVec 32 := Scalar.addi c0_i32_2644 v2016
  v2017.toNat
def k0_dev118 (v1 : BitVec 32) : Nat :=
  let c0_i32_2668 : BitVec 32 := 0#32
  let c1_i32_2667 : BitVec 32 := 1#32
  let v2034 : BitVec 32 := Scalar.muli v1 c1_i32_2667
  let v2035 : BitVec 32 := Scalar.addi c0_i32_2668 v2034
  v2035.toNat
def k0_dev119 (v0 : BitVec 32) : Nat :=
  let c0_i32_2692 : BitVec 32 := 0#32
  let c1_i32_2691 : BitVec 32 := 1#32
  let v2052 : BitVec 32 := Scalar.muli v0 c1_i32_2691
  let v2053 : BitVec 32 := Scalar.addi c0_i32_2692 v2052
  v2053.toNat
def k0_dev120 (v0 : BitVec 32) : Nat :=
  let c0_i32_2716 : BitVec 32 := 0#32
  let c1_i32_2715 : BitVec 32 := 1#32
  let v2070 : BitVec 32 := Scalar.muli v0 c1_i32_2715
  let v2071 : BitVec 32 := Scalar.addi c0_i32_2716 v2070
  v2071.toNat
def k0_dev121 (v1 : BitVec 32) : Nat :=
  let c0_i32_2740 : BitVec 32 := 0#32
  let c1_i32_2739 : BitVec 32 := 1#32
  let v2088 : BitVec 32 := Scalar.muli v1 c1_i32_2739
  let v2089 : BitVec 32 := Scalar.addi c0_i32_2740 v2088
  v2089.toNat
def k0_dev122 (v1 : BitVec 32) : Nat :=
  let c0_i32_2764 : BitVec 32 := 0#32
  let c1_i32_2763 : BitVec 32 := 1#32
  let v2106 : BitVec 32 := Scalar.muli v1 c1_i32_2763
  let v2107 : BitVec 32 := Scalar.addi c0_i32_2764 v2106
  v2107.toNat

def k0_chk1_0 (v1 : BitVec 32) : Prop :=
  ((k0_dev1 v1) < nD) ∧
  ((k0_dev5 v1) < nD) ∧
  ((k0_dev6 v1) < nD) ∧
  ((k0_dev9 v1) < nD) ∧
  ((k0_dev10 v1) < nD) ∧
  ((k0_dev13 v1) < nD) ∧
  ((k0_dev14 v1) < nD) ∧
  ((k0_dev17 v1) < nD) ∧
  ((k0_dev18 v1) < nD) ∧
  ((k0_dev21 v1) < nD) ∧
  ((k0_dev22 v1) < nD) ∧
  ((k0_dev25 v1) < nD) ∧
  ((k0_dev26 v1) < nD) ∧
  ((k0_dev29 v1) < nD) ∧
  ((k0_dev30 v1) < nD) ∧
  ((k0_dev33 v1) < nD) ∧
  ((k0_dev34 v1) < nD) ∧
  ((k0_dev37 v1) < nD) ∧
  ((k0_dev38 v1) < nD) ∧
  ((k0_dev41 v1) < nD) ∧
  ((k0_dev42 v1) < nD) ∧
  ((k0_dev45 v1) < nD) ∧
  ((k0_dev46 v1) < nD) ∧
  ((k0_dev49 v1) < nD) ∧
  ((k0_dev50 v1) < nD) ∧
  ((k0_dev53 v1) < nD) ∧
  ((k0_dev54 v1) < nD) ∧
  ((k0_dev57 v1) < nD) ∧
  ((k0_dev58 v1) < nD) ∧
  ((k0_dev61 v1) < nD) ∧
  ((k0_dev62 v1) < nD) ∧
  ((k0_dev65 v1) < nD)
def k0_chk1_1 (v1 : BitVec 32) : Prop :=
  ((k0_dev66 v1) < nD) ∧
  ((k0_dev69 v1) < nD) ∧
  ((k0_dev70 v1) < nD) ∧
  ((k0_dev73 v1) < nD) ∧
  ((k0_dev74 v1) < nD) ∧
  ((k0_dev77 v1) < nD) ∧
  ((k0_dev78 v1) < nD) ∧
  ((k0_dev81 v1) < nD) ∧
  ((k0_dev82 v1) < nD) ∧
  ((k0_dev85 v1) < nD) ∧
  ((k0_dev86 v1) < nD) ∧
  ((k0_dev89 v1) < nD) ∧
  ((k0_dev90 v1) < nD) ∧
  ((k0_dev93 v1) < nD) ∧
  ((k0_dev94 v1) < nD) ∧
  ((k0_dev97 v1) < nD) ∧
  ((k0_dev98 v1) < nD) ∧
  ((k0_dev101 v1) < nD) ∧
  ((k0_dev102 v1) < nD) ∧
  ((k0_dev105 v1) < nD) ∧
  ((k0_dev106 v1) < nD) ∧
  ((k0_dev109 v1) < nD) ∧
  ((k0_dev110 v1) < nD) ∧
  ((k0_dev113 v1) < nD) ∧
  ((k0_dev114 v1) < nD) ∧
  ((k0_dev117 v1) < nD) ∧
  ((k0_dev118 v1) < nD) ∧
  ((k0_dev121 v1) < nD) ∧
  ((k0_dev122 v1) < nD)
def k0_chk1 (v1 : BitVec 32) : Prop :=
  k0_chk1_0 v1 ∧
  k0_chk1_1 v1
theorem k0_dev1_lt : ∀ (v1 : BitVec 32) (k0_hw1 : k0_chk1 v1), (k0_dev1 v1) < nD := fun v1 k0_hw1 => k0_hw1.1.1
theorem k0_dev5_lt : ∀ (v1 : BitVec 32) (k0_hw1 : k0_chk1 v1), (k0_dev5 v1) < nD := fun v1 k0_hw1 => k0_hw1.1.2.1
theorem k0_dev6_lt : ∀ (v1 : BitVec 32) (k0_hw1 : k0_chk1 v1), (k0_dev6 v1) < nD := fun v1 k0_hw1 => k0_hw1.1.2.2.1
theorem k0_dev9_lt : ∀ (v1 : BitVec 32) (k0_hw1 : k0_chk1 v1), (k0_dev9 v1) < nD := fun v1 k0_hw1 => k0_hw1.1.2.2.2.1
theorem k0_dev10_lt : ∀ (v1 : BitVec 32) (k0_hw1 : k0_chk1 v1), (k0_dev10 v1) < nD := fun v1 k0_hw1 => k0_hw1.1.2.2.2.2.1
theorem k0_dev13_lt : ∀ (v1 : BitVec 32) (k0_hw1 : k0_chk1 v1), (k0_dev13 v1) < nD := fun v1 k0_hw1 => k0_hw1.1.2.2.2.2.2.1
theorem k0_dev14_lt : ∀ (v1 : BitVec 32) (k0_hw1 : k0_chk1 v1), (k0_dev14 v1) < nD := fun v1 k0_hw1 => k0_hw1.1.2.2.2.2.2.2.1
theorem k0_dev17_lt : ∀ (v1 : BitVec 32) (k0_hw1 : k0_chk1 v1), (k0_dev17 v1) < nD := fun v1 k0_hw1 => k0_hw1.1.2.2.2.2.2.2.2.1
theorem k0_dev18_lt : ∀ (v1 : BitVec 32) (k0_hw1 : k0_chk1 v1), (k0_dev18 v1) < nD := fun v1 k0_hw1 => k0_hw1.1.2.2.2.2.2.2.2.2.1
theorem k0_dev21_lt : ∀ (v1 : BitVec 32) (k0_hw1 : k0_chk1 v1), (k0_dev21 v1) < nD := fun v1 k0_hw1 => k0_hw1.1.2.2.2.2.2.2.2.2.2.1
theorem k0_dev22_lt : ∀ (v1 : BitVec 32) (k0_hw1 : k0_chk1 v1), (k0_dev22 v1) < nD := fun v1 k0_hw1 => k0_hw1.1.2.2.2.2.2.2.2.2.2.2.1
theorem k0_dev25_lt : ∀ (v1 : BitVec 32) (k0_hw1 : k0_chk1 v1), (k0_dev25 v1) < nD := fun v1 k0_hw1 => k0_hw1.1.2.2.2.2.2.2.2.2.2.2.2.1
theorem k0_dev26_lt : ∀ (v1 : BitVec 32) (k0_hw1 : k0_chk1 v1), (k0_dev26 v1) < nD := fun v1 k0_hw1 => k0_hw1.1.2.2.2.2.2.2.2.2.2.2.2.2.1
theorem k0_dev29_lt : ∀ (v1 : BitVec 32) (k0_hw1 : k0_chk1 v1), (k0_dev29 v1) < nD := fun v1 k0_hw1 => k0_hw1.1.2.2.2.2.2.2.2.2.2.2.2.2.2.1
theorem k0_dev30_lt : ∀ (v1 : BitVec 32) (k0_hw1 : k0_chk1 v1), (k0_dev30 v1) < nD := fun v1 k0_hw1 => k0_hw1.1.2.2.2.2.2.2.2.2.2.2.2.2.2.2.1
theorem k0_dev33_lt : ∀ (v1 : BitVec 32) (k0_hw1 : k0_chk1 v1), (k0_dev33 v1) < nD := fun v1 k0_hw1 => k0_hw1.1.2.2.2.2.2.2.2.2.2.2.2.2.2.2.2.1
theorem k0_dev34_lt : ∀ (v1 : BitVec 32) (k0_hw1 : k0_chk1 v1), (k0_dev34 v1) < nD := fun v1 k0_hw1 => k0_hw1.1.2.2.2.2.2.2.2.2.2.2.2.2.2.2.2.2.1
theorem k0_dev37_lt : ∀ (v1 : BitVec 32) (k0_hw1 : k0_chk1 v1), (k0_dev37 v1) < nD := fun v1 k0_hw1 => k0_hw1.1.2.2.2.2.2.2.2.2.2.2.2.2.2.2.2.2.2.1
theorem k0_dev38_lt : ∀ (v1 : BitVec 32) (k0_hw1 : k0_chk1 v1), (k0_dev38 v1) < nD := fun v1 k0_hw1 => k0_hw1.1.2.2.2.2.2.2.2.2.2.2.2.2.2.2.2.2.2.2.1
theorem k0_dev41_lt : ∀ (v1 : BitVec 32) (k0_hw1 : k0_chk1 v1), (k0_dev41 v1) < nD := fun v1 k0_hw1 => k0_hw1.1.2.2.2.2.2.2.2.2.2.2.2.2.2.2.2.2.2.2.2.1
theorem k0_dev42_lt : ∀ (v1 : BitVec 32) (k0_hw1 : k0_chk1 v1), (k0_dev42 v1) < nD := fun v1 k0_hw1 => k0_hw1.1.2.2.2.2.2.2.2.2.2.2.2.2.2.2.2.2.2.2.2.2.1
theorem k0_dev45_lt : ∀ (v1 : BitVec 32) (k0_hw1 : k0_chk1 v1), (k0_dev45 v1) < nD := fun v1 k0_hw1 => k0_hw1.1.2.2.2.2.2.2.2.2.2.2.2.2.2.2.2.2.2.2.2.2.2.1
theorem k0_dev46_lt : ∀ (v1 : BitVec 32) (k0_hw1 : k0_chk1 v1), (k0_dev46 v1) < nD := fun v1 k0_hw1 => k0_hw1.1.2.2.2.2.2.2.2.2.2.2.2.2.2.2.2.2.2.2.2.2.2.2.1
theorem k0_dev49_lt : ∀ (v1 : BitVec 32) (k0_hw1 : k0_chk1 v1), (k0_dev49 v1) < nD := fun v1 k0_hw1 => k0_hw1.1.2.2.2.2.2.2.2.2.2.2.2.2.2.2.2.2.2.2.2.2.2.2.2.1
theorem k0_dev50_lt : ∀ (v1 : BitVec 32) (k0_hw1 : k0_chk1 v1), (k0_dev50 v1) < nD := fun v1 k0_hw1 => k0_hw1.1.2.2.2.2.2.2.2.2.2.2.2.2.2.2.2.2.2.2.2.2.2.2.2.2.1
theorem k0_dev53_lt : ∀ (v1 : BitVec 32) (k0_hw1 : k0_chk1 v1), (k0_dev53 v1) < nD := fun v1 k0_hw1 => k0_hw1.1.2.2.2.2.2.2.2.2.2.2.2.2.2.2.2.2.2.2.2.2.2.2.2.2.2.1
theorem k0_dev54_lt : ∀ (v1 : BitVec 32) (k0_hw1 : k0_chk1 v1), (k0_dev54 v1) < nD := fun v1 k0_hw1 => k0_hw1.1.2.2.2.2.2.2.2.2.2.2.2.2.2.2.2.2.2.2.2.2.2.2.2.2.2.2.1
theorem k0_dev57_lt : ∀ (v1 : BitVec 32) (k0_hw1 : k0_chk1 v1), (k0_dev57 v1) < nD := fun v1 k0_hw1 => k0_hw1.1.2.2.2.2.2.2.2.2.2.2.2.2.2.2.2.2.2.2.2.2.2.2.2.2.2.2.2.1
theorem k0_dev58_lt : ∀ (v1 : BitVec 32) (k0_hw1 : k0_chk1 v1), (k0_dev58 v1) < nD := fun v1 k0_hw1 => k0_hw1.1.2.2.2.2.2.2.2.2.2.2.2.2.2.2.2.2.2.2.2.2.2.2.2.2.2.2.2.2.1
theorem k0_dev61_lt : ∀ (v1 : BitVec 32) (k0_hw1 : k0_chk1 v1), (k0_dev61 v1) < nD := fun v1 k0_hw1 => k0_hw1.1.2.2.2.2.2.2.2.2.2.2.2.2.2.2.2.2.2.2.2.2.2.2.2.2.2.2.2.2.2.1
theorem k0_dev62_lt : ∀ (v1 : BitVec 32) (k0_hw1 : k0_chk1 v1), (k0_dev62 v1) < nD := fun v1 k0_hw1 => k0_hw1.1.2.2.2.2.2.2.2.2.2.2.2.2.2.2.2.2.2.2.2.2.2.2.2.2.2.2.2.2.2.2.1
theorem k0_dev65_lt : ∀ (v1 : BitVec 32) (k0_hw1 : k0_chk1 v1), (k0_dev65 v1) < nD := fun v1 k0_hw1 => k0_hw1.1.2.2.2.2.2.2.2.2.2.2.2.2.2.2.2.2.2.2.2.2.2.2.2.2.2.2.2.2.2.2.2
theorem k0_dev66_lt : ∀ (v1 : BitVec 32) (k0_hw1 : k0_chk1 v1), (k0_dev66 v1) < nD := fun v1 k0_hw1 => k0_hw1.2.1
theorem k0_dev69_lt : ∀ (v1 : BitVec 32) (k0_hw1 : k0_chk1 v1), (k0_dev69 v1) < nD := fun v1 k0_hw1 => k0_hw1.2.2.1
theorem k0_dev70_lt : ∀ (v1 : BitVec 32) (k0_hw1 : k0_chk1 v1), (k0_dev70 v1) < nD := fun v1 k0_hw1 => k0_hw1.2.2.2.1
theorem k0_dev73_lt : ∀ (v1 : BitVec 32) (k0_hw1 : k0_chk1 v1), (k0_dev73 v1) < nD := fun v1 k0_hw1 => k0_hw1.2.2.2.2.1
theorem k0_dev74_lt : ∀ (v1 : BitVec 32) (k0_hw1 : k0_chk1 v1), (k0_dev74 v1) < nD := fun v1 k0_hw1 => k0_hw1.2.2.2.2.2.1
theorem k0_dev77_lt : ∀ (v1 : BitVec 32) (k0_hw1 : k0_chk1 v1), (k0_dev77 v1) < nD := fun v1 k0_hw1 => k0_hw1.2.2.2.2.2.2.1
theorem k0_dev78_lt : ∀ (v1 : BitVec 32) (k0_hw1 : k0_chk1 v1), (k0_dev78 v1) < nD := fun v1 k0_hw1 => k0_hw1.2.2.2.2.2.2.2.1
theorem k0_dev81_lt : ∀ (v1 : BitVec 32) (k0_hw1 : k0_chk1 v1), (k0_dev81 v1) < nD := fun v1 k0_hw1 => k0_hw1.2.2.2.2.2.2.2.2.1
theorem k0_dev82_lt : ∀ (v1 : BitVec 32) (k0_hw1 : k0_chk1 v1), (k0_dev82 v1) < nD := fun v1 k0_hw1 => k0_hw1.2.2.2.2.2.2.2.2.2.1
theorem k0_dev85_lt : ∀ (v1 : BitVec 32) (k0_hw1 : k0_chk1 v1), (k0_dev85 v1) < nD := fun v1 k0_hw1 => k0_hw1.2.2.2.2.2.2.2.2.2.2.1
theorem k0_dev86_lt : ∀ (v1 : BitVec 32) (k0_hw1 : k0_chk1 v1), (k0_dev86 v1) < nD := fun v1 k0_hw1 => k0_hw1.2.2.2.2.2.2.2.2.2.2.2.1
theorem k0_dev89_lt : ∀ (v1 : BitVec 32) (k0_hw1 : k0_chk1 v1), (k0_dev89 v1) < nD := fun v1 k0_hw1 => k0_hw1.2.2.2.2.2.2.2.2.2.2.2.2.1
theorem k0_dev90_lt : ∀ (v1 : BitVec 32) (k0_hw1 : k0_chk1 v1), (k0_dev90 v1) < nD := fun v1 k0_hw1 => k0_hw1.2.2.2.2.2.2.2.2.2.2.2.2.2.1
theorem k0_dev93_lt : ∀ (v1 : BitVec 32) (k0_hw1 : k0_chk1 v1), (k0_dev93 v1) < nD := fun v1 k0_hw1 => k0_hw1.2.2.2.2.2.2.2.2.2.2.2.2.2.2.1
theorem k0_dev94_lt : ∀ (v1 : BitVec 32) (k0_hw1 : k0_chk1 v1), (k0_dev94 v1) < nD := fun v1 k0_hw1 => k0_hw1.2.2.2.2.2.2.2.2.2.2.2.2.2.2.2.1
theorem k0_dev97_lt : ∀ (v1 : BitVec 32) (k0_hw1 : k0_chk1 v1), (k0_dev97 v1) < nD := fun v1 k0_hw1 => k0_hw1.2.2.2.2.2.2.2.2.2.2.2.2.2.2.2.2.1
theorem k0_dev98_lt : ∀ (v1 : BitVec 32) (k0_hw1 : k0_chk1 v1), (k0_dev98 v1) < nD := fun v1 k0_hw1 => k0_hw1.2.2.2.2.2.2.2.2.2.2.2.2.2.2.2.2.2.1
theorem k0_dev101_lt : ∀ (v1 : BitVec 32) (k0_hw1 : k0_chk1 v1), (k0_dev101 v1) < nD := fun v1 k0_hw1 => k0_hw1.2.2.2.2.2.2.2.2.2.2.2.2.2.2.2.2.2.2.1
theorem k0_dev102_lt : ∀ (v1 : BitVec 32) (k0_hw1 : k0_chk1 v1), (k0_dev102 v1) < nD := fun v1 k0_hw1 => k0_hw1.2.2.2.2.2.2.2.2.2.2.2.2.2.2.2.2.2.2.2.1
theorem k0_dev105_lt : ∀ (v1 : BitVec 32) (k0_hw1 : k0_chk1 v1), (k0_dev105 v1) < nD := fun v1 k0_hw1 => k0_hw1.2.2.2.2.2.2.2.2.2.2.2.2.2.2.2.2.2.2.2.2.1
theorem k0_dev106_lt : ∀ (v1 : BitVec 32) (k0_hw1 : k0_chk1 v1), (k0_dev106 v1) < nD := fun v1 k0_hw1 => k0_hw1.2.2.2.2.2.2.2.2.2.2.2.2.2.2.2.2.2.2.2.2.2.1
theorem k0_dev109_lt : ∀ (v1 : BitVec 32) (k0_hw1 : k0_chk1 v1), (k0_dev109 v1) < nD := fun v1 k0_hw1 => k0_hw1.2.2.2.2.2.2.2.2.2.2.2.2.2.2.2.2.2.2.2.2.2.2.1
theorem k0_dev110_lt : ∀ (v1 : BitVec 32) (k0_hw1 : k0_chk1 v1), (k0_dev110 v1) < nD := fun v1 k0_hw1 => k0_hw1.2.2.2.2.2.2.2.2.2.2.2.2.2.2.2.2.2.2.2.2.2.2.2.1
theorem k0_dev113_lt : ∀ (v1 : BitVec 32) (k0_hw1 : k0_chk1 v1), (k0_dev113 v1) < nD := fun v1 k0_hw1 => k0_hw1.2.2.2.2.2.2.2.2.2.2.2.2.2.2.2.2.2.2.2.2.2.2.2.2.1
theorem k0_dev114_lt : ∀ (v1 : BitVec 32) (k0_hw1 : k0_chk1 v1), (k0_dev114 v1) < nD := fun v1 k0_hw1 => k0_hw1.2.2.2.2.2.2.2.2.2.2.2.2.2.2.2.2.2.2.2.2.2.2.2.2.2.1
theorem k0_dev117_lt : ∀ (v1 : BitVec 32) (k0_hw1 : k0_chk1 v1), (k0_dev117 v1) < nD := fun v1 k0_hw1 => k0_hw1.2.2.2.2.2.2.2.2.2.2.2.2.2.2.2.2.2.2.2.2.2.2.2.2.2.2.1
theorem k0_dev118_lt : ∀ (v1 : BitVec 32) (k0_hw1 : k0_chk1 v1), (k0_dev118 v1) < nD := fun v1 k0_hw1 => k0_hw1.2.2.2.2.2.2.2.2.2.2.2.2.2.2.2.2.2.2.2.2.2.2.2.2.2.2.2.1
theorem k0_dev121_lt : ∀ (v1 : BitVec 32) (k0_hw1 : k0_chk1 v1), (k0_dev121 v1) < nD := fun v1 k0_hw1 => k0_hw1.2.2.2.2.2.2.2.2.2.2.2.2.2.2.2.2.2.2.2.2.2.2.2.2.2.2.2.2.1
theorem k0_dev122_lt : ∀ (v1 : BitVec 32) (k0_hw1 : k0_chk1 v1), (k0_dev122 v1) < nD := fun v1 k0_hw1 => k0_hw1.2.2.2.2.2.2.2.2.2.2.2.2.2.2.2.2.2.2.2.2.2.2.2.2.2.2.2.2.2

def k0_dev123 (v0 : BitVec 32) : Nat :=
  let c0_i32_2788 : BitVec 32 := 0#32
  let c1_i32_2787 : BitVec 32 := 1#32
  let v2124 : BitVec 32 := Scalar.muli v0 c1_i32_2787
  let v2125 : BitVec 32 := Scalar.addi c0_i32_2788 v2124
  v2125.toNat
def k0_dev124 (v0 : BitVec 32) : Nat :=
  let c0_i32_2812 : BitVec 32 := 0#32
  let c1_i32_2811 : BitVec 32 := 1#32
  let v2142 : BitVec 32 := Scalar.muli v0 c1_i32_2811
  let v2143 : BitVec 32 := Scalar.addi c0_i32_2812 v2142
  v2143.toNat
def k0_dev125 (v0 : BitVec 32) : Nat :=
  let c0_i32_2860 : BitVec 32 := 0#32
  let c1_i32_2859 : BitVec 32 := 1#32
  let v2176 : BitVec 32 := Scalar.muli v0 c1_i32_2859
  let v2177 : BitVec 32 := Scalar.addi c0_i32_2860 v2176
  v2177.toNat
def k0_dev126 (v0 : BitVec 32) : Nat :=
  let c0_i32_2884 : BitVec 32 := 0#32
  let c1_i32_2883 : BitVec 32 := 1#32
  let v2194 : BitVec 32 := Scalar.muli v0 c1_i32_2883
  let v2195 : BitVec 32 := Scalar.addi c0_i32_2884 v2194
  v2195.toNat

def k0_chk2_0 (v0 : BitVec 32) : Prop :=
  ((k0_dev2 v0) < nD) ∧
  ((k0_dev3 v0) < nD) ∧
  ((k0_dev4 v0) < nD) ∧
  ((k0_dev7 v0) < nD) ∧
  ((k0_dev8 v0) < nD) ∧
  ((k0_dev11 v0) < nD) ∧
  ((k0_dev12 v0) < nD) ∧
  ((k0_dev15 v0) < nD) ∧
  ((k0_dev16 v0) < nD) ∧
  ((k0_dev19 v0) < nD) ∧
  ((k0_dev20 v0) < nD) ∧
  ((k0_dev23 v0) < nD) ∧
  ((k0_dev24 v0) < nD) ∧
  ((k0_dev27 v0) < nD) ∧
  ((k0_dev28 v0) < nD) ∧
  ((k0_dev31 v0) < nD) ∧
  ((k0_dev32 v0) < nD) ∧
  ((k0_dev35 v0) < nD) ∧
  ((k0_dev36 v0) < nD) ∧
  ((k0_dev39 v0) < nD) ∧
  ((k0_dev40 v0) < nD) ∧
  ((k0_dev43 v0) < nD) ∧
  ((k0_dev44 v0) < nD) ∧
  ((k0_dev47 v0) < nD) ∧
  ((k0_dev48 v0) < nD) ∧
  ((k0_dev51 v0) < nD) ∧
  ((k0_dev52 v0) < nD) ∧
  ((k0_dev55 v0) < nD) ∧
  ((k0_dev56 v0) < nD) ∧
  ((k0_dev59 v0) < nD) ∧
  ((k0_dev60 v0) < nD) ∧
  ((k0_dev63 v0) < nD)
def k0_chk2_1 (v0 : BitVec 32) : Prop :=
  ((k0_dev64 v0) < nD) ∧
  ((k0_dev67 v0) < nD) ∧
  ((k0_dev68 v0) < nD) ∧
  ((k0_dev71 v0) < nD) ∧
  ((k0_dev72 v0) < nD) ∧
  ((k0_dev75 v0) < nD) ∧
  ((k0_dev76 v0) < nD) ∧
  ((k0_dev79 v0) < nD) ∧
  ((k0_dev80 v0) < nD) ∧
  ((k0_dev83 v0) < nD) ∧
  ((k0_dev84 v0) < nD) ∧
  ((k0_dev87 v0) < nD) ∧
  ((k0_dev88 v0) < nD) ∧
  ((k0_dev91 v0) < nD) ∧
  ((k0_dev92 v0) < nD) ∧
  ((k0_dev95 v0) < nD) ∧
  ((k0_dev96 v0) < nD) ∧
  ((k0_dev99 v0) < nD) ∧
  ((k0_dev100 v0) < nD) ∧
  ((k0_dev103 v0) < nD) ∧
  ((k0_dev104 v0) < nD) ∧
  ((k0_dev107 v0) < nD) ∧
  ((k0_dev108 v0) < nD) ∧
  ((k0_dev111 v0) < nD) ∧
  ((k0_dev112 v0) < nD) ∧
  ((k0_dev115 v0) < nD) ∧
  ((k0_dev116 v0) < nD) ∧
  ((k0_dev119 v0) < nD) ∧
  ((k0_dev120 v0) < nD) ∧
  ((k0_dev123 v0) < nD) ∧
  ((k0_dev124 v0) < nD) ∧
  ((k0_dev125 v0) < nD)
def k0_chk2_2 (v0 : BitVec 32) : Prop :=
  ((k0_dev126 v0) < nD)
def k0_chk2 (v0 : BitVec 32) : Prop :=
  k0_chk2_0 v0 ∧
  k0_chk2_1 v0 ∧
  k0_chk2_2 v0
theorem k0_dev2_lt : ∀ (v0 : BitVec 32) (k0_hw2 : k0_chk2 v0), (k0_dev2 v0) < nD := fun v0 k0_hw2 => k0_hw2.1.1
theorem k0_dev3_lt : ∀ (v0 : BitVec 32) (k0_hw2 : k0_chk2 v0), (k0_dev3 v0) < nD := fun v0 k0_hw2 => k0_hw2.1.2.1
theorem k0_dev4_lt : ∀ (v0 : BitVec 32) (k0_hw2 : k0_chk2 v0), (k0_dev4 v0) < nD := fun v0 k0_hw2 => k0_hw2.1.2.2.1
theorem k0_dev7_lt : ∀ (v0 : BitVec 32) (k0_hw2 : k0_chk2 v0), (k0_dev7 v0) < nD := fun v0 k0_hw2 => k0_hw2.1.2.2.2.1
theorem k0_dev8_lt : ∀ (v0 : BitVec 32) (k0_hw2 : k0_chk2 v0), (k0_dev8 v0) < nD := fun v0 k0_hw2 => k0_hw2.1.2.2.2.2.1
theorem k0_dev11_lt : ∀ (v0 : BitVec 32) (k0_hw2 : k0_chk2 v0), (k0_dev11 v0) < nD := fun v0 k0_hw2 => k0_hw2.1.2.2.2.2.2.1
theorem k0_dev12_lt : ∀ (v0 : BitVec 32) (k0_hw2 : k0_chk2 v0), (k0_dev12 v0) < nD := fun v0 k0_hw2 => k0_hw2.1.2.2.2.2.2.2.1
theorem k0_dev15_lt : ∀ (v0 : BitVec 32) (k0_hw2 : k0_chk2 v0), (k0_dev15 v0) < nD := fun v0 k0_hw2 => k0_hw2.1.2.2.2.2.2.2.2.1
theorem k0_dev16_lt : ∀ (v0 : BitVec 32) (k0_hw2 : k0_chk2 v0), (k0_dev16 v0) < nD := fun v0 k0_hw2 => k0_hw2.1.2.2.2.2.2.2.2.2.1
theorem k0_dev19_lt : ∀ (v0 : BitVec 32) (k0_hw2 : k0_chk2 v0), (k0_dev19 v0) < nD := fun v0 k0_hw2 => k0_hw2.1.2.2.2.2.2.2.2.2.2.1
theorem k0_dev20_lt : ∀ (v0 : BitVec 32) (k0_hw2 : k0_chk2 v0), (k0_dev20 v0) < nD := fun v0 k0_hw2 => k0_hw2.1.2.2.2.2.2.2.2.2.2.2.1
theorem k0_dev23_lt : ∀ (v0 : BitVec 32) (k0_hw2 : k0_chk2 v0), (k0_dev23 v0) < nD := fun v0 k0_hw2 => k0_hw2.1.2.2.2.2.2.2.2.2.2.2.2.1
theorem k0_dev24_lt : ∀ (v0 : BitVec 32) (k0_hw2 : k0_chk2 v0), (k0_dev24 v0) < nD := fun v0 k0_hw2 => k0_hw2.1.2.2.2.2.2.2.2.2.2.2.2.2.1
theorem k0_dev27_lt : ∀ (v0 : BitVec 32) (k0_hw2 : k0_chk2 v0), (k0_dev27 v0) < nD := fun v0 k0_hw2 => k0_hw2.1.2.2.2.2.2.2.2.2.2.2.2.2.2.1
theorem k0_dev28_lt : ∀ (v0 : BitVec 32) (k0_hw2 : k0_chk2 v0), (k0_dev28 v0) < nD := fun v0 k0_hw2 => k0_hw2.1.2.2.2.2.2.2.2.2.2.2.2.2.2.2.1
theorem k0_dev31_lt : ∀ (v0 : BitVec 32) (k0_hw2 : k0_chk2 v0), (k0_dev31 v0) < nD := fun v0 k0_hw2 => k0_hw2.1.2.2.2.2.2.2.2.2.2.2.2.2.2.2.2.1
theorem k0_dev32_lt : ∀ (v0 : BitVec 32) (k0_hw2 : k0_chk2 v0), (k0_dev32 v0) < nD := fun v0 k0_hw2 => k0_hw2.1.2.2.2.2.2.2.2.2.2.2.2.2.2.2.2.2.1
theorem k0_dev35_lt : ∀ (v0 : BitVec 32) (k0_hw2 : k0_chk2 v0), (k0_dev35 v0) < nD := fun v0 k0_hw2 => k0_hw2.1.2.2.2.2.2.2.2.2.2.2.2.2.2.2.2.2.2.1
theorem k0_dev36_lt : ∀ (v0 : BitVec 32) (k0_hw2 : k0_chk2 v0), (k0_dev36 v0) < nD := fun v0 k0_hw2 => k0_hw2.1.2.2.2.2.2.2.2.2.2.2.2.2.2.2.2.2.2.2.1
theorem k0_dev39_lt : ∀ (v0 : BitVec 32) (k0_hw2 : k0_chk2 v0), (k0_dev39 v0) < nD := fun v0 k0_hw2 => k0_hw2.1.2.2.2.2.2.2.2.2.2.2.2.2.2.2.2.2.2.2.2.1
theorem k0_dev40_lt : ∀ (v0 : BitVec 32) (k0_hw2 : k0_chk2 v0), (k0_dev40 v0) < nD := fun v0 k0_hw2 => k0_hw2.1.2.2.2.2.2.2.2.2.2.2.2.2.2.2.2.2.2.2.2.2.1
theorem k0_dev43_lt : ∀ (v0 : BitVec 32) (k0_hw2 : k0_chk2 v0), (k0_dev43 v0) < nD := fun v0 k0_hw2 => k0_hw2.1.2.2.2.2.2.2.2.2.2.2.2.2.2.2.2.2.2.2.2.2.2.1
theorem k0_dev44_lt : ∀ (v0 : BitVec 32) (k0_hw2 : k0_chk2 v0), (k0_dev44 v0) < nD := fun v0 k0_hw2 => k0_hw2.1.2.2.2.2.2.2.2.2.2.2.2.2.2.2.2.2.2.2.2.2.2.2.1
theorem k0_dev47_lt : ∀ (v0 : BitVec 32) (k0_hw2 : k0_chk2 v0), (k0_dev47 v0) < nD := fun v0 k0_hw2 => k0_hw2.1.2.2.2.2.2.2.2.2.2.2.2.2.2.2.2.2.2.2.2.2.2.2.2.1
theorem k0_dev48_lt : ∀ (v0 : BitVec 32) (k0_hw2 : k0_chk2 v0), (k0_dev48 v0) < nD := fun v0 k0_hw2 => k0_hw2.1.2.2.2.2.2.2.2.2.2.2.2.2.2.2.2.2.2.2.2.2.2.2.2.2.1
theorem k0_dev51_lt : ∀ (v0 : BitVec 32) (k0_hw2 : k0_chk2 v0), (k0_dev51 v0) < nD := fun v0 k0_hw2 => k0_hw2.1.2.2.2.2.2.2.2.2.2.2.2.2.2.2.2.2.2.2.2.2.2.2.2.2.2.1
theorem k0_dev52_lt : ∀ (v0 : BitVec 32) (k0_hw2 : k0_chk2 v0), (k0_dev52 v0) < nD := fun v0 k0_hw2 => k0_hw2.1.2.2.2.2.2.2.2.2.2.2.2.2.2.2.2.2.2.2.2.2.2.2.2.2.2.2.1
theorem k0_dev55_lt : ∀ (v0 : BitVec 32) (k0_hw2 : k0_chk2 v0), (k0_dev55 v0) < nD := fun v0 k0_hw2 => k0_hw2.1.2.2.2.2.2.2.2.2.2.2.2.2.2.2.2.2.2.2.2.2.2.2.2.2.2.2.2.1
theorem k0_dev56_lt : ∀ (v0 : BitVec 32) (k0_hw2 : k0_chk2 v0), (k0_dev56 v0) < nD := fun v0 k0_hw2 => k0_hw2.1.2.2.2.2.2.2.2.2.2.2.2.2.2.2.2.2.2.2.2.2.2.2.2.2.2.2.2.2.1
theorem k0_dev59_lt : ∀ (v0 : BitVec 32) (k0_hw2 : k0_chk2 v0), (k0_dev59 v0) < nD := fun v0 k0_hw2 => k0_hw2.1.2.2.2.2.2.2.2.2.2.2.2.2.2.2.2.2.2.2.2.2.2.2.2.2.2.2.2.2.2.1
theorem k0_dev60_lt : ∀ (v0 : BitVec 32) (k0_hw2 : k0_chk2 v0), (k0_dev60 v0) < nD := fun v0 k0_hw2 => k0_hw2.1.2.2.2.2.2.2.2.2.2.2.2.2.2.2.2.2.2.2.2.2.2.2.2.2.2.2.2.2.2.2.1
theorem k0_dev63_lt : ∀ (v0 : BitVec 32) (k0_hw2 : k0_chk2 v0), (k0_dev63 v0) < nD := fun v0 k0_hw2 => k0_hw2.1.2.2.2.2.2.2.2.2.2.2.2.2.2.2.2.2.2.2.2.2.2.2.2.2.2.2.2.2.2.2.2
theorem k0_dev64_lt : ∀ (v0 : BitVec 32) (k0_hw2 : k0_chk2 v0), (k0_dev64 v0) < nD := fun v0 k0_hw2 => k0_hw2.2.1.1
theorem k0_dev67_lt : ∀ (v0 : BitVec 32) (k0_hw2 : k0_chk2 v0), (k0_dev67 v0) < nD := fun v0 k0_hw2 => k0_hw2.2.1.2.1
theorem k0_dev68_lt : ∀ (v0 : BitVec 32) (k0_hw2 : k0_chk2 v0), (k0_dev68 v0) < nD := fun v0 k0_hw2 => k0_hw2.2.1.2.2.1
theorem k0_dev71_lt : ∀ (v0 : BitVec 32) (k0_hw2 : k0_chk2 v0), (k0_dev71 v0) < nD := fun v0 k0_hw2 => k0_hw2.2.1.2.2.2.1
theorem k0_dev72_lt : ∀ (v0 : BitVec 32) (k0_hw2 : k0_chk2 v0), (k0_dev72 v0) < nD := fun v0 k0_hw2 => k0_hw2.2.1.2.2.2.2.1
theorem k0_dev75_lt : ∀ (v0 : BitVec 32) (k0_hw2 : k0_chk2 v0), (k0_dev75 v0) < nD := fun v0 k0_hw2 => k0_hw2.2.1.2.2.2.2.2.1
theorem k0_dev76_lt : ∀ (v0 : BitVec 32) (k0_hw2 : k0_chk2 v0), (k0_dev76 v0) < nD := fun v0 k0_hw2 => k0_hw2.2.1.2.2.2.2.2.2.1
theorem k0_dev79_lt : ∀ (v0 : BitVec 32) (k0_hw2 : k0_chk2 v0), (k0_dev79 v0) < nD := fun v0 k0_hw2 => k0_hw2.2.1.2.2.2.2.2.2.2.1
theorem k0_dev80_lt : ∀ (v0 : BitVec 32) (k0_hw2 : k0_chk2 v0), (k0_dev80 v0) < nD := fun v0 k0_hw2 => k0_hw2.2.1.2.2.2.2.2.2.2.2.1
theorem k0_dev83_lt : ∀ (v0 : BitVec 32) (k0_hw2 : k0_chk2 v0), (k0_dev83 v0) < nD := fun v0 k0_hw2 => k0_hw2.2.1.2.2.2.2.2.2.2.2.2.1
theorem k0_dev84_lt : ∀ (v0 : BitVec 32) (k0_hw2 : k0_chk2 v0), (k0_dev84 v0) < nD := fun v0 k0_hw2 => k0_hw2.2.1.2.2.2.2.2.2.2.2.2.2.1
theorem k0_dev87_lt : ∀ (v0 : BitVec 32) (k0_hw2 : k0_chk2 v0), (k0_dev87 v0) < nD := fun v0 k0_hw2 => k0_hw2.2.1.2.2.2.2.2.2.2.2.2.2.2.1
theorem k0_dev88_lt : ∀ (v0 : BitVec 32) (k0_hw2 : k0_chk2 v0), (k0_dev88 v0) < nD := fun v0 k0_hw2 => k0_hw2.2.1.2.2.2.2.2.2.2.2.2.2.2.2.1
theorem k0_dev91_lt : ∀ (v0 : BitVec 32) (k0_hw2 : k0_chk2 v0), (k0_dev91 v0) < nD := fun v0 k0_hw2 => k0_hw2.2.1.2.2.2.2.2.2.2.2.2.2.2.2.2.1
theorem k0_dev92_lt : ∀ (v0 : BitVec 32) (k0_hw2 : k0_chk2 v0), (k0_dev92 v0) < nD := fun v0 k0_hw2 => k0_hw2.2.1.2.2.2.2.2.2.2.2.2.2.2.2.2.2.1
theorem k0_dev95_lt : ∀ (v0 : BitVec 32) (k0_hw2 : k0_chk2 v0), (k0_dev95 v0) < nD := fun v0 k0_hw2 => k0_hw2.2.1.2.2.2.2.2.2.2.2.2.2.2.2.2.2.2.1
theorem k0_dev96_lt : ∀ (v0 : BitVec 32) (k0_hw2 : k0_chk2 v0), (k0_dev96 v0) < nD := fun v0 k0_hw2 => k0_hw2.2.1.2.2.2.2.2.2.2.2.2.2.2.2.2.2.2.2.1
theorem k0_dev99_lt : ∀ (v0 : BitVec 32) (k0_hw2 : k0_chk2 v0), (k0_dev99 v0) < nD := fun v0 k0_hw2 => k0_hw2.2.1.2.2.2.2.2.2.2.2.2.2.2.2.2.2.2.2.2.1
theorem k0_dev100_lt : ∀ (v0 : BitVec 32) (k0_hw2 : k0_chk2 v0), (k0_dev100 v0) < nD := fun v0 k0_hw2 => k0_hw2.2.1.2.2.2.2.2.2.2.2.2.2.2.2.2.2.2.2.2.2.1
theorem k0_dev103_lt : ∀ (v0 : BitVec 32) (k0_hw2 : k0_chk2 v0), (k0_dev103 v0) < nD := fun v0 k0_hw2 => k0_hw2.2.1.2.2.2.2.2.2.2.2.2.2.2.2.2.2.2.2.2.2.2.1
theorem k0_dev104_lt : ∀ (v0 : BitVec 32) (k0_hw2 : k0_chk2 v0), (k0_dev104 v0) < nD := fun v0 k0_hw2 => k0_hw2.2.1.2.2.2.2.2.2.2.2.2.2.2.2.2.2.2.2.2.2.2.2.1
theorem k0_dev107_lt : ∀ (v0 : BitVec 32) (k0_hw2 : k0_chk2 v0), (k0_dev107 v0) < nD := fun v0 k0_hw2 => k0_hw2.2.1.2.2.2.2.2.2.2.2.2.2.2.2.2.2.2.2.2.2.2.2.2.1
theorem k0_dev108_lt : ∀ (v0 : BitVec 32) (k0_hw2 : k0_chk2 v0), (k0_dev108 v0) < nD := fun v0 k0_hw2 => k0_hw2.2.1.2.2.2.2.2.2.2.2.2.2.2.2.2.2.2.2.2.2.2.2.2.2.1
theorem k0_dev111_lt : ∀ (v0 : BitVec 32) (k0_hw2 : k0_chk2 v0), (k0_dev111 v0) < nD := fun v0 k0_hw2 => k0_hw2.2.1.2.2.2.2.2.2.2.2.2.2.2.2.2.2.2.2.2.2.2.2.2.2.2.1
theorem k0_dev112_lt : ∀ (v0 : BitVec 32) (k0_hw2 : k0_chk2 v0), (k0_dev112 v0) < nD := fun v0 k0_hw2 => k0_hw2.2.1.2.2.2.2.2.2.2.2.2.2.2.2.2.2.2.2.2.2.2.2.2.2.2.2.1
theorem k0_dev115_lt : ∀ (v0 : BitVec 32) (k0_hw2 : k0_chk2 v0), (k0_dev115 v0) < nD := fun v0 k0_hw2 => k0_hw2.2.1.2.2.2.2.2.2.2.2.2.2.2.2.2.2.2.2.2.2.2.2.2.2.2.2.2.1
theorem k0_dev116_lt : ∀ (v0 : BitVec 32) (k0_hw2 : k0_chk2 v0), (k0_dev116 v0) < nD := fun v0 k0_hw2 => k0_hw2.2.1.2.2.2.2.2.2.2.2.2.2.2.2.2.2.2.2.2.2.2.2.2.2.2.2.2.2.1
theorem k0_dev119_lt : ∀ (v0 : BitVec 32) (k0_hw2 : k0_chk2 v0), (k0_dev119 v0) < nD := fun v0 k0_hw2 => k0_hw2.2.1.2.2.2.2.2.2.2.2.2.2.2.2.2.2.2.2.2.2.2.2.2.2.2.2.2.2.2.1
theorem k0_dev120_lt : ∀ (v0 : BitVec 32) (k0_hw2 : k0_chk2 v0), (k0_dev120 v0) < nD := fun v0 k0_hw2 => k0_hw2.2.1.2.2.2.2.2.2.2.2.2.2.2.2.2.2.2.2.2.2.2.2.2.2.2.2.2.2.2.2.1
theorem k0_dev123_lt : ∀ (v0 : BitVec 32) (k0_hw2 : k0_chk2 v0), (k0_dev123 v0) < nD := fun v0 k0_hw2 => k0_hw2.2.1.2.2.2.2.2.2.2.2.2.2.2.2.2.2.2.2.2.2.2.2.2.2.2.2.2.2.2.2.2.1
theorem k0_dev124_lt : ∀ (v0 : BitVec 32) (k0_hw2 : k0_chk2 v0), (k0_dev124 v0) < nD := fun v0 k0_hw2 => k0_hw2.2.1.2.2.2.2.2.2.2.2.2.2.2.2.2.2.2.2.2.2.2.2.2.2.2.2.2.2.2.2.2.2.1
theorem k0_dev125_lt : ∀ (v0 : BitVec 32) (k0_hw2 : k0_chk2 v0), (k0_dev125 v0) < nD := fun v0 k0_hw2 => k0_hw2.2.1.2.2.2.2.2.2.2.2.2.2.2.2.2.2.2.2.2.2.2.2.2.2.2.2.2.2.2.2.2.2.2
theorem k0_dev126_lt : ∀ (v0 : BitVec 32) (k0_hw2 : k0_chk2 v0), (k0_dev126 v0) < nD := fun v0 k0_hw2 => k0_hw2.2.2

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Script.lean ====
/- The kernel's long run of copies and waits as a LIST. Between the opening (barrier, own block into slot 0) and
   the closing (product), the kernel's body does nothing but start copies to a neighbour, wait for the copies that
   land here, and wait for its own copies to have left. Here each of those steps is a value of a small type, the
   order they come in is a list written as the kernel's loops, and the body is shown to be the opening, the run of
   that list, and the closing. -/
module

public import proofs.«01_k».proof.Proof.Gen.KernelIdeal.Skeleton
public import Idealize.ShloMosaic.Lib.Pipeline.Regions

@[expose] public section

noncomputable section

namespace Cert.KernelIdeal.Ring

open Idealize.ShloMosaic Idealize.SL.Sem Cert.KernelIdeal.Gen

variable {F : FTy → Type} [FloatOps F]

/-- A copy of half a slot to a neighbour: which buffer (`false` the block of x, `true` the block of w), which slot
    it lands in (slot `k + 1`), and which half of the slot's columns. -/
abbrev Cp := Bool × Fin 31 × Fin 2

namespace Cp

/-- Whether the copy goes to the right neighbour. -/
def right (j : Cp) : Bool := decide (j.2.1.val < 16)

/-- The slot it lands in. -/
def dst (j : Cp) : Fin 32 := ⟨j.2.1.val + 1, by omega⟩

/-- The slot it is read from: the one before on the way right, the one after (round the ring) on the way left. -/
def src (j : Cp) : Fin 32 := ⟨cond j.right j.2.1.val ((j.2.1.val + 2) % 32), by
  have := j.2.1.2; cases j.right <;> simp <;> omega⟩

/-- The row of the sending semaphore. -/
def row (j : Cp) : Fin 32 := ⟨cond j.right j.2.1.val (46 - j.2.1.val), by
  have := j.2.1.2; cases h : j.right <;> simp [right] at * <;> omega⟩

/-- The step of the ring at which the copy is made. -/
def step (j : Cp) : ℕ := cond j.right j.2.1.val (30 - j.2.1.val)

end Cp

/-- One step of the run. -/
inductive Act
  /-- start a copy to the neighbour -/
  | start (j : Cp)
  /-- wait for the same copy, made by the other neighbour, to land here -/
  | recv (j : Cp)
  /-- wait for a started copy to have been read -/
  | sent (j : Cp)
  deriving DecidableEq

/-- The copy of step `h` to the right, -/
def rt (w : Bool) (h : ℕ) (s : Fin 2) : Cp := ⟨w, Fin.ofNat 31 h, s⟩

/-- and to the left. -/
def lf (w : Bool) (h : ℕ) (s : Fin 2) : Cp := ⟨w, Fin.ofNat 31 (30 - h), s⟩

/-- What the body does at the start, per half: all four first copies. -/
def opening (s : Fin 2) : List Act :=
  [.start (rt false 0 s), .start (rt true 0 s), .start (lf false 0 s), .start (lf true 0 s)]

/-- A landing awaited and, unless it was the last, passed on. -/
def pass (last : Bool) (a b : Cp) : List Act := .recv a :: cond last [] [.start b]

/-- What the body does at step `h` of the ring, per half. -/
def hop (h : ℕ) (s : Fin 2) : List Act :=
  pass (Nat.beq h 15) (rt false h s) (rt false (h + 1) s) ++
  pass (Nat.beq h 15) (rt true h s) (rt true (h + 1) s) ++
  cond (Nat.beq h 15) []
    (pass (Nat.beq h 14) (lf false h s) (lf false (h + 1) s) ++
     pass (Nat.beq h 14) (lf true h s) (lf true (h + 1) s))

/-- The waits for the copies of step `h` to have been read, per half. -/
def drain (h : ℕ) (s : Fin 2) : List Act :=
  [.sent (rt false h s), .sent (rt true h s)] ++
  cond (Nat.beq h 15) [] [.sent (lf false h s), .sent (lf true h s)]

/-- Both halves in turn. -/
def both (f : Fin 2 → List Act) : List Act := f 0 ++ f 1

/-- All the steps of the run, in the body's order. -/
def script : List Act :=
  both opening ++ (List.range 16).flatMap (fun h => both (hop h)) ++ (List.range 16).flatMap (fun h => both (drain h))

/-- Half `s` of slot `k` lies inside the buffer. -/
theorem piece_inb (k : Fin 32) (s : Fin 2) :
    ∀ a, (![k.val, 0, 1024 * s.val] : Fin 3 → ℕ) a + S1x64x1024.size a ≤ S32x64x2048.size a := by
  revert k s; decide

/-- Entry `(k, s)` of a table of semaphores lies inside it. -/
theorem entry_inb (k : Fin 32) (s : Fin 2) :
    ∀ a, (![k.val, s.val] : Fin 2 → ℕ) a + S1x1.size a ≤ S32x2.size a := by
  revert k s; decide

/-- A half slot is a whole number of words. -/
theorem piece_words (k : Fin 32) (s : Fin 2) :
    (Rect.unit (s := S32x64x2048) ![k.val, 0, 1024 * s.val] S1x64x1024.size (piece_inb k s)).WholeWords
      (EltTy.packing .bf16) := by
  revert k s; decide

/-- Half `s` of slot `k` of a buffer of 32 slots, as the copies name it. -/
abbrev piece (a : Memref sig .tc .vmem S32x64x2048 .bf16) (k : Fin 32) (s : Fin 2) :
    Memref sig .tc .vmem S64x1024 .bf16 :=
  (a.slice (Rect.unit (s := S32x64x2048) ![k.val, 0, 1024 * s.val] S1x64x1024.size (piece_inb k s))
    (fun _ => rfl)).squeeze S64x1024 squeezes_S1x64x1024_S64x1024

/-- The semaphore at `(k, s)` of a table. -/
abbrev entry (t : DmaSems sig S32x2) (k : Fin 32) (s : Fin 2) : DmaSem sig :=
  ((t.slice (Rect.unit (s := S32x2) ![k.val, s.val] S1x1.size (entry_inb k s))).squeeze S_
    squeezes_S1x1_S_).sem

theorem piece_exact {a : Memref sig .tc .vmem S32x64x2048 .bf16} (ha : a.IsWhole) (k : Fin 32) (s : Fin 2) :
    (piece a k s).view.WordExact :=
  (ha.wordExact_slice rfl _ (piece_words k s)).reshape _ _

/-- The run of a list of steps, then the rest of the body: `B` the two buffers, `S`, `R` their sending and receiving
    semaphores, `nx` and `pv` the right and left neighbours. -/
def run (B : Bool → Memref sig .tc .vmem S32x64x2048 .bf16) (hB : ∀ b, (B b).IsWhole)
    (S R : Bool → DmaSems sig S32x2) (nx pv : Dev nD) {α : Type} :
    List Act → Prog (TpuEff nD τ sig (Elt F) Λ₀ .tc) α → Prog (TpuEff nD τ sig (Elt F) Λ₀ .tc) α
  | [], q => q
  | .start j :: l, q =>
      .op (.enqueueDma (piece (B j.1) j.src j.2.2)
        (.remote (Dev.tc (cond j.right nx pv)) (piece (B j.1) j.dst j.2.2) (.dma (entry (S j.1) j.row j.2.2)))
        (.dma (entry (R j.1) j.dst j.2.2)) (piece_exact (hB j.1) _ _) (piece_exact (hB j.1) _ _)
        ⟨⟨rfl, Or.inl rfl⟩, trivial⟩) fun _ => run B hB S R nx pv l q
  | .recv j :: l, q =>
      .op (.waitDma2 (entry (R j.1) j.dst j.2.2) (piece (B j.1) j.src j.2.2) (piece (B j.1) j.dst j.2.2)
        (piece_exact (hB j.1) _ _) (piece_exact (hB j.1) _ _)) fun _ => run B hB S R nx pv l q
  | .sent j :: l, q =>
      .op (.waitDma2 (entry (S j.1) j.row j.2.2) (piece (B j.1) j.dst j.2.2) (piece (B j.1) j.src j.2.2)
        (piece_exact (hB j.1) _ _) (piece_exact (hB j.1) _ _)) fun _ => run B hB S R nx pv l q

section Body

variable (arg0 : Memref sig .tc .smem S1 .i32) (harg0 : arg0.IsWhole) (arg1 : Memref sig .tc .smem S1 .i32)
  (harg1 : arg1.IsWhole) (arg2 : Memref sig .tc .vmem S2048x64 .f32) (harg2 : arg2.IsWhole)
  (arg3 : Memref sig .tc .vmem S64x2048 .f32) (harg3 : arg3.IsWhole) (arg4 : Memref sig .tc .vmem S2048x2048 .f32)
  (harg4 : arg4.IsWhole) (arg5 : Memref sig .tc .vmem S32x64x2048 .bf16) (harg5 : arg5.IsWhole)
  (arg6 : Memref sig .tc .vmem S32x64x2048 .bf16) (harg6 : arg6.IsWhole)
  (arg7 arg8 arg9 arg10 : DmaSems sig S32x2)

/-- Two buffers by their name. -/
def two {α : Sort*} (x w : α) (b : Bool) : α := cond b w x

include harg5 harg6 in
theorem two_whole (b : Bool) : (two arg5 arg6 b).IsWhole := by cases b <;> assumption

/-- The closing: both buffers are full; their product, four blocks of columns in turn, each with its negative
    entries put to zero, goes to the result. -/
def closing : Prog (TpuEff nD τ sig (Elt F) Λ₀ .tc) PUnit := do
  let xs : Vec F S32x64x2048 .bf16 ← Prog.lift (.load arg5 (Rect.unit (s := S32x64x2048) ![0, 0, 0] S32x64x2048.size inb_S32x64x2048_S32x64x2048_0_0_0).toLoadRect (View.loadsAt_vmem h_S32x64x2048))
  let w0 : Vec F S32x64x512 .bf16 ← Prog.lift (.load arg6 (Rect.unit (s := S32x64x2048) ![0, 0, 0] S32x64x512.size inb_S32x64x2048_S32x64x512_0_0_0).toLoadRect (View.loadsAt_vmem h_S32x64x512))
  let _ : Vec F S2048x512 .f32 ← Prog.lift (.load arg4 (Rect.unit (s := S2048x2048) ![0, 0] S2048x512.size inb_S2048x2048_S2048x512_0_0).toLoadRect (View.loadsAt_vmem h_S2048x512))
  Prog.lift (.store arg4 (Rect.unit (s := S2048x2048) ![0, 0] S2048x512.size inb_S2048x2048_S2048x512_0_0) (k0_pay5 (k0_pay4 xs) w0) Finset.univ (View.stores_vmem_bits_univ h_S2048x512 rfl) (.inl rfl))
  let w1 : Vec F S32x64x512 .bf16 ← Prog.lift (.load arg6 (Rect.unit (s := S32x64x2048) ![0, 0, 512] S32x64x512.size inb_S32x64x2048_S32x64x512_0_0_512).toLoadRect (View.loadsAt_vmem h_S32x64x512))
  let _ : Vec F S2048x512 .f32 ← Prog.lift (.load arg4 (Rect.unit (s := S2048x2048) ![0, 512] S2048x512.size inb_S2048x2048_S2048x512_0_512).toLoadRect (View.loadsAt_vmem h_S2048x512))
  Prog.lift (.store arg4 (Rect.unit (s := S2048x2048) ![0, 512] S2048x512.size inb_S2048x2048_S2048x512_0_512) (k0_pay6 (k0_pay4 xs) w1) Finset.univ (View.stores_vmem_bits_univ h_S2048x512 rfl) (.inl rfl))
  let w2 : Vec F S32x64x512 .bf16 ← Prog.lift (.load arg6 (Rect.unit (s := S32x64x2048) ![0, 0, 1024] S32x64x512.size inb_S32x64x2048_S32x64x512_0_0_1024).toLoadRect (View.loadsAt_vmem h_S32x64x512))
  let _ : Vec F S2048x512 .f32 ← Prog.lift (.load arg4 (Rect.unit (s := S2048x2048) ![0, 1024] S2048x512.size inb_S2048x2048_S2048x512_0_1024).toLoadRect (View.loadsAt_vmem h_S2048x512))
  Prog.lift (.store arg4 (Rect.unit (s := S2048x2048) ![0, 1024] S2048x512.size inb_S2048x2048_S2048x512_0_1024) (k0_pay7 (k0_pay4 xs) w2) Finset.univ (View.stores_vmem_bits_univ h_S2048x512 rfl) (.inl rfl))
  let w3 : Vec F S32x64x512 .bf16 ← Prog.lift (.load arg6 (Rect.unit (s := S32x64x2048) ![0, 0, 1536] S32x64x512.size inb_S32x64x2048_S32x64x512_0_0_1536).toLoadRect (View.loadsAt_vmem h_S32x64x512))
  let _ : Vec F S2048x512 .f32 ← Prog.lift (.load arg4 (Rect.unit (s := S2048x2048) ![0, 1536] S2048x512.size inb_S2048x2048_S2048x512_0_1536).toLoadRect (View.loadsAt_vmem h_S2048x512))
  Prog.lift (.store arg4 (Rect.unit (s := S2048x2048) ![0, 1536] S2048x512.size inb_S2048x2048_S2048x512_0_1536) (k0_pay1 (k0_pay8 (k0_pay4 xs) w3) (k0_pay9 (F := F))) Finset.univ (View.stores_vmem_bits_univ h_S2048x512 rfl) (.inl rfl))
  pure ⟨⟩

/-- What follows the opening: the run of the script between the neighbours the opening read, then the closing. -/
def rest (v0 : Elt F .i32) (h0 : k0_chk2 v0) (v1 : Elt F .i32) (h1 : k0_chk1 v1) :
    Prog (TpuEff nD τ sig (Elt F) Λ₀ .tc) PUnit :=
  run (two arg5 arg6) (two_whole arg5 harg5 arg6 harg6) (two arg7 arg9) (two arg8 arg10)
    ⟨k0_dev2 v0, k0_dev2_lt v0 h0⟩ ⟨k0_dev1 v1, k0_dev1_lt v1 h1⟩ script (closing arg4 arg5 arg6)

set_option maxRecDepth 65536 in
/-- The kernel's body is its opening, the run of the script, and the closing. -/
theorem body_eq : cc0_body (F := F) arg0 harg0 arg1 harg1 arg2 harg2 arg3 harg3 arg4 harg4 arg5 harg5 arg6 harg6 arg7 arg8 arg9 arg10 =
    (k0_part1_skel arg0 harg0 arg1 harg1 arg2 harg2 arg3 harg3 arg4 harg4 arg5 harg5 arg6 harg6 arg7 arg8 arg9 arg10 >>=
      fun r => rest arg4 arg5 harg5 arg6 harg6 arg7 arg8 arg9 arg10 r.1 r.2.1 r.2.2.1 r.2.2.2) := by
  chain_rfl

end Body

end Cert.KernelIdeal.Ring

end
-- ==== Proof.Ring.lean ====
/- The ring the devices form, and the semaphore cells the kernel's copies use. Every device has a right and a left
   neighbour; slot `k` of device `c` ends with the block of the device `k` places to its left. -/
module

public import proofs.«01_k».proof.Proof.Script
public import Idealize.ShloMosaic.Lib.Rounds

@[expose] public section

noncomputable section

namespace Cert.KernelIdeal.Ring

open Idealize.ShloMosaic Idealize.ShloMosaic.TcCoe Idealize.SL.Sem Cert.KernelIdeal.Gen

/-! ## The ring -/

/-- The right neighbour. -/
def nx : Dev nD → Dev nD :=
  ![8, 0, 10, 4, 12, 2, 14, 6, 16, 1, 18, 3, 20, 5, 22, 7, 24, 9, 26, 11, 28, 13, 30, 15, 27, 17, 25, 19, 31, 21, 29, 23]

/-- The left neighbour. -/
def pv : Dev nD → Dev nD :=
  ![1, 9, 5, 11, 3, 13, 7, 15, 0, 17, 2, 19, 4, 21, 6, 23, 8, 25, 10, 27, 12, 29, 14, 31, 16, 26, 18, 24, 20, 30, 22, 28]

theorem pv_nx (c : Dev nD) : pv (nx c) = c := by revert c; decide
theorem nx_pv (c : Dev nD) : nx (pv c) = c := by revert c; decide

/-- The device whose block ends in slot `k` of device `c`: the one `k` places to the left. -/
def org (c : Dev nD) (k : Fin 32) : Dev nD := pv^[k.val] c

theorem pv_all (c : Dev nD) : pv^[32] c = c := by revert c; decide

/-- The neighbour on a side: `true` the right one. -/
def tgt (c : Dev nD) (d : Bool) : Dev nD := cond d (nx c) (pv c)

theorem tgt_tgt (c : Dev nD) (d : Bool) : tgt (tgt c d) (!d) = c := by
  cases d
  · exact nx_pv c
  · exact pv_nx c

theorem tgt_tgt' (c : Dev nD) (d : Bool) : tgt (tgt c (!d)) d = c := by
  cases d
  · exact pv_nx c
  · exact nx_pv c

/-- A copy brings to its slot the block that belongs there. -/
theorem org_tgt (c : Dev nD) (j : Cp) : org (tgt c j.right) j.dst = org c j.src := by
  obtain ⟨w, k, s⟩ := j
  have hk := k.2
  unfold org Cp.dst Cp.src Cp.right tgt
  by_cases h : k.val < 16
  · simp only [h, decide_true, cond_true]
    rw [Function.iterate_succ_apply, pv_nx]
  · simp only [h, decide_false, cond_false]
    rw [← Function.iterate_succ_apply]
    by_cases h30 : k.val = 30
    · rw [h30]; exact pv_all c
    · rw [Nat.mod_eq_of_lt (by omega)]

/-! ## The cells -/

/-- The two buffers of slots. -/
def B (w : Bool) : Memref sig .tc .vmem S32x64x2048 .bf16 := two (Memref.whole cc0_scratch0) (Memref.whole cc0_scratch1) w
theorem hB (w : Bool) : (B w).IsWhole := two_whole _ (Memref.isWhole_whole _) _ (Memref.isWhole_whole _) w
/-- Their sending semaphores, -/
def S (w : Bool) : DmaSems sig S32x2 := two cc0_scratch2 cc0_scratch4 w
/-- and the receiving ones. -/
def R (w : Bool) : DmaSems sig S32x2 := two cc0_scratch3 cc0_scratch5 w

/-- The barrier's semaphore. -/
abbrev barS : Sem sig := sig.barrier 0 rfl

/-- A copy's semaphore: `false` where it was read, `true` where it lands. -/
def dsem : Bool × Cp → DmaSem sig
  | (false, j) => entry (S j.1) j.row j.2.2
  | (true, j) => entry (R j.1) j.dst j.2.2

/-- Every semaphore of the protocol: the barrier's, and each copy's two. -/
def csem : Option (Bool × Cp) → SemLoc sig
  | none => .reg barS
  | some p => .dma (dsem p)

abbrev barCell (c : Dev nD) : GSem nD τ sig := ((c : Thread nD τ), .reg barS)
abbrev sCell (c : Dev nD) (j : Cp) : GSem nD τ sig := ((c : Thread nD τ), .dma (entry (S j.1) j.row j.2.2))
abbrev rCell (c : Dev nD) (j : Cp) : GSem nD τ sig := ((c : Thread nD τ), .dma (entry (R j.1) j.dst j.2.2))

/-- The number of a copy's semaphore. -/
theorem dsem_val (p : Bool × Cp) :
    (dsem p).val = 5 + 64 * p.1.toNat + 128 * p.2.1.toNat + 2 * (cond p.1 p.2.dst p.2.row).val + p.2.2.2.val := by
  revert p; decide +kernel

theorem dsem_inj : Function.Injective dsem := by
  rintro ⟨b, w, k, s⟩ ⟨b', w', k', s'⟩ h
  have h' := congrArg Fin.val h
  rw [dsem_val, dsem_val] at h'
  have hk := k.2; have hk' := k'.2; have hs := s.2; have hs' := s'.2
  have key : b = b' ∧ w = w' ∧ k.val = k'.val ∧ s.val = s'.val := by
    cases b <;> cases b' <;> cases w <;> cases w' <;>
      simp [Cp.dst, Cp.row, Cp.right, Bool.cond_decide] at h' ⊢ <;> (try split at h') <;> (try split at h') <;> omega
  obtain ⟨rfl, rfl, h1, h2⟩ := key
  rw [Fin.ext h1, Fin.ext h2]

theorem csem_inj : Function.Injective csem := by
  rintro (_ | p) (_ | q) h
  · rfl
  · exact absurd h (fun h => by cases h)
  · exact absurd h (fun h => by cases h)
  · exact congrArg some (dsem_inj (SemLoc.dma.inj h))

/-- Which semaphore of the protocol a semaphore is, if any. -/
def what : SemLoc sig → Option (Option (Bool × Cp)) := Function.partialInv csem

theorem what_csem (p : Option (Bool × Cp)) : what (csem p) = some p := Function.partialInv_left csem_inj p
theorem what_bar : what (.reg barS) = some none := what_csem none
theorem what_s (j : Cp) : what (.dma (entry (S j.1) j.row j.2.2)) = some (some (false, j)) := what_csem (some (false, j))
theorem what_r (j : Cp) : what (.dma (entry (R j.1) j.dst j.2.2)) = some (some (true, j)) := what_csem (some (true, j))

/-- The credit of one copy. -/
def N : ℕ := (piece (B false) 0 0).view.dmaCredit
theorem N_eq (w : Bool) (k : Fin 32) (s : Fin 2) : (piece (B w) k s).view.dmaCredit = N := by cases w <;> rfl
theorem N_pos : 0 < N := by decide

end Cert.KernelIdeal.Ring
-- ==== Proof.Protocol.lean ====
/- The protocol of the ring: what each semaphore's payments carry, what a device owns at each point of the run of
   copies, and what it still owes its neighbours. -/
module

public import proofs.«01_k».proof.Proof.Ring
public import Idealize.ShloMosaic.Lib.Pipeline.Kit
public import Idealize.ShloMosaic.Lib.Tactic
public import Idealize.ShloMosaic.Lib.Pipeline.RegionTalk

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- The protocol's resource algebra: the staging transfers' part and the ring's. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

abbrev 𝒱₀ : Variants := Variants.none

/-- The blocks: `Y w d` is device `d`'s block of x (`w = false`, transposed) or of w, in the short format. -/
abbrev Blocks (F : FTy → Type) : Type := Bool → Dev nD → Fin 64 → Fin 2048 → Elt F .bf16

variable (Y : Blocks F)

/-- What buffer `w` of device `c` holds in the end: in slot `k` the block of the device `k` places to the left. -/
def full (w : Bool) (c : Dev nD) : S32x64x2048.Idx → Elt F .bf16 := fun i => Y w (org c (i 0)) (i 1) (i 2)

/-- The rectangle of half `s` of slot `k`. -/
abbrev rct (k : Fin 32) (s : Fin 2) : Rect S32x64x2048 :=
  Rect.unit (s := S32x64x2048) ![k.val, 0, 1024 * s.val] S1x64x1024.size (piece_inb k s)

/-- Half `s` of slot `k` of buffer `w`, before its unit axis is dropped. -/
abbrev half (w : Bool) (k : Fin 32) (s : Fin 2) : Memref sig .tc .vmem S1x64x1024 .bf16 :=
  (B w).slice (rct k s) (fun _ => rfl)

/-- What half `s` of slot `k` holds in the end. -/
abbrev part (w : Bool) (c : Dev nD) (k : Fin 32) (s : Fin 2) : S1x64x1024.Idx → Elt F .bf16 :=
  fun i => full Y w c ((rct k s).emb i)

/-- Half a slot owned at what it holds in the end, at share `q`. -/
abbrev has (c : Dev nD) (w : Bool) (k : Fin 32) (s : Fin 2) (q : PosShare TreeShare) : sProp 𝕄 :=
  owns (c : Thread nD τ) (half w k s) q (part Y w c k s)

/-- Half a slot owned at any contents. -/
abbrev free (c : Dev nD) (w : Bool) (k : Fin 32) (s : Fin 2) : sProp 𝕄 :=
  iprop(∃ X : S1x64x1024.Idx → Elt F .bf16, owns (c : Thread nD τ) (half w k s) fullShare X)

/-- The share of its source a copy borrows: of slot 0, which two copies read, half each. -/
def shr (j : Cp) : PosShare TreeShare :=
  if j.2.1 = 0 then fullShare.left else if j.2.1 = 30 then fullShare.right else fullShare

/-- Paid to device `c`'s barrier by the neighbour on side `d`: the slots there that `c`'s copies land in, whose
    semaphores are ready. -/
def barPay (c : Dev nD) (d : Bool) : sProp 𝕄 :=
  bigSep (Finset.univ.filter fun j : Cp => j.right = d) fun j =>
    iprop(free (F := F) (tgt c d) j.1 j.dst j.2.2 ∗ reached ER (rCell (tgt c d) j) 0)

/-- One round on every semaphore: two payments on a barrier, one on each copy's two semaphores. -/
def talk : Rounds.Schedule (GSem nD τ sig) Bool 𝕄 where
  duties g r := if r = 0 ∧ g.1.2 = .tc then
      (match what g.2 with | none => ∅ | some none => Finset.univ | some (some _) => {false}) else ∅
  amount g _ _ := match what g.2 with | some (some _) => N | _ => 1
  payload g _ d := match what g.2 with
    | none => iprop(emp)
    | some none => barPay g.1.1 d
    | some (some (false, j)) => has Y g.1.1 j.1 j.src j.2.2 (shr j)
    | some (some (true, j)) => has Y g.1.1 j.1 j.dst j.2.2 fullShare
  amount_pos g _ _ _ := by
    cases what g.2 with
    | none => exact Nat.one_pos
    | some o => cases o with
      | none => exact Nat.one_pos
      | some p => exact N_pos

instance talk_storable (g : GSem nD τ sig) (r : ℕ) (d : Bool) :
    BI.Storable (upEmb : UEmb _ 𝕄) ((talk Y).payload g r d) := by
  unfold talk
  dsimp only
  rcases what g.2 with _ | _ | ⟨_ | _, j⟩ <;> dsimp only
  · infer_instance
  · unfold barPay; infer_instance
  · infer_instance
  · infer_instance

section Tables

variable (c : Dev nD) (j : Cp)

theorem duties_bar : (talk Y).duties (barCell c) 0 = Finset.univ := by
  dsimp only [talk]; rw [if_pos ⟨rfl, rfl⟩, what_bar]
theorem duties_s : (talk Y).duties (sCell c j) 0 = {false} := by
  dsimp only [talk]; rw [if_pos ⟨rfl, rfl⟩, what_s]
theorem duties_r : (talk Y).duties (rCell c j) 0 = {false} := by
  dsimp only [talk]; rw [if_pos ⟨rfl, rfl⟩, what_r]
theorem duties_later (g : GSem nD τ sig) : ∀ r, 1 ≤ r → (talk Y).duties g r = ∅ :=
  fun r hr => by dsimp only [talk]; rw [if_neg (fun h => by omega)]

theorem amount_bar (d : Bool) : (talk Y).amount (barCell c) 0 d = 1 := by dsimp only [talk]; rw [what_bar]
theorem amount_s (d : Bool) : (talk Y).amount (sCell c j) 0 d = N := by dsimp only [talk]; rw [what_s]
theorem amount_r (d : Bool) : (talk Y).amount (rCell c j) 0 d = N := by dsimp only [talk]; rw [what_r]

theorem expect_bar : (talk Y).expect (barCell c) 0 = 2 := by
  unfold Schedule.expect Schedule.amountOf
  rw [duties_bar, Finset.sum_congr rfl (fun d _ => amount_bar Y c d)]; rfl
theorem expect_s : (talk Y).expect (sCell c j) 0 = N := by
  unfold Schedule.expect Schedule.amountOf; rw [duties_s, Finset.sum_singleton, amount_s]
theorem expect_r : (talk Y).expect (rCell c j) 0 = N := by
  unfold Schedule.expect Schedule.amountOf; rw [duties_r, Finset.sum_singleton, amount_r]

theorem payload_bar (d : Bool) : (talk Y).payload (barCell c) 0 d = barPay c d := by dsimp only [talk]; rw [what_bar]
theorem payload_s (d : Bool) : (talk Y).payload (sCell c j) 0 d = has Y c j.1 j.src j.2.2 (shr j) := by
  dsimp only [talk]; rw [what_s]
theorem payload_r (d : Bool) : (talk Y).payload (rCell c j) 0 d = has Y c j.1 j.dst j.2.2 fullShare := by
  dsimp only [talk]; rw [what_r]

theorem rest_bar : bigSep ((talk Y).duties (barCell c) 0 \ ∅) (fun d => (talk Y).payload (barCell c) 0 d)
    = iprop(barPay (F := F) c true ∗ barPay c false) := by
  rw [Finset.sdiff_empty, duties_bar, bigSep_congr (fun d _ => payload_bar Y c d),
    show (Finset.univ : Finset Bool) = insert true {false} from rfl, bigSep_insert (by decide), bigSep_singleton]
  rfl
theorem rest_s : bigSep ((talk Y).duties (sCell c j) 0 \ ∅) (fun d => (talk Y).payload (sCell c j) 0 d)
    = has Y c j.1 j.src j.2.2 (shr j) := by
  rw [Finset.sdiff_empty, duties_s, bigSep_singleton, payload_s]
theorem rest_r : bigSep ((talk Y).duties (rCell c j) 0 \ ∅) (fun d => (talk Y).payload (rCell c j) 0 d)
    = has Y c j.1 j.dst j.2.2 fullShare := by
  rw [Finset.sdiff_empty, duties_r, bigSep_singleton, payload_r]

end Tables

/-! ## Levels, and what a device owes -/

/-- The tallies are kept on the devices' own cells. -/
def L (g : GSem nD τ sig) : Finset Unit := if g.1.2 = .tc then {()} else ∅
/-- A barrier is waited for before every landing, a landing before those of later steps. -/
def lv (g : GSem nD τ sig) (_ : Unit) : ℕ := match what g.2 with
  | some none => 1
  | some (some (true, j)) => 2 + j.step
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; rw [what_bar]
theorem lv_r (c : Dev nD) (j : Cp) (u : Unit) : lv (rCell c j) u = 2 + j.step := by dsimp only [lv]; rw [what_r]

/-- What a device owes with a list of steps before it: each copy still to be started, to the neighbour's cell. -/
def owed (c : Dev nD) : List Act → CellTallies nD τ sig Unit
  | [] => 0
  | .start j :: l => owed c l + tallyAt (rCell (tgt c j.right) j) () N
  | .recv _ :: l => owed c l
  | .sent _ :: l => owed c l

/-- Every copy started in the list satisfies `p`. -/
def starts (p : Cp → Bool) : List Act → Bool
  | [] => true
  | .start j :: l => p j && starts p l
  | .recv _ :: l => starts p l
  | .sent _ :: l => starts p l

/-- Only cells of copies still to be started are owed. -/
theorem owed_pos (c : Dev nD) (p : Cp → Bool) (l : List Act) (hl : starts p l = true) (g : GSem nD τ sig) (u : Unit)
    (h : 0 < owed c l g u) : ∃ j, p j = true ∧ g = rCell (tgt c j.right) j := by
  induction l with
  | nil => exact absurd h (Nat.lt_irrefl 0)
  | cons a l ih =>
    cases a with
    | start j =>
      have hl' := Bool.and_eq_true _ _ ▸ (show (p j && starts p l) = true from hl)
      by_cases hg : g = rCell (tgt c j.right) j ∧ u = ()
      · exact ⟨j, hl'.1, hg.1⟩
      · refine ih hl'.2 ?_
        have h' : 0 < owed c l g u + (tallyAt (rCell (tgt c j.right) j) () N : CellTallies nD τ sig Unit) g u := h
        rw [tallyAt_apply, if_neg hg] at h'
        exact h'
    | recv j => exact ih hl h
    | sent j => exact ih hl h

/-- With no copy to start nothing is owed. -/
theorem owed_none (c : Dev nD) (l : List Act) (hl : starts (fun _ => false) l = true) : owed c l = 0 := by
  induction l with
  | nil => rfl
  | cons a l ih =>
    cases a with
    | start j => exact absurd hl (by simp [starts])
    | recv j => exact ih hl
    | sent j => exact ih hl

/-- A landing may be awaited while only copies of later steps are owed. -/
theorem mayWait_r (c : Dev nD) (j : Cp) (l : List Act) (hl : starts (fun i => Nat.blt j.step i.step) l = true) :
    (levAts L lv : sProp 𝕄) ⊢ MayWait (c : Thread nD τ) (.dma (entry (R j.1) j.dst j.2.2)) () (owed c l) :=
  MayOwe.of_cut (L := L) (lev := lv) (2 + j.step)
    (fun p hp => by rw [Finset.mem_singleton.mp hp, L_tc]; exact Finset.mem_singleton_self _)
    (fun g u hg => by
      obtain ⟨i, -, rfl⟩ := owed_pos c _ l hl g u hg
      rw [L_tc]; exact Finset.mem_singleton_self _)
    (fun p hp => by rw [Finset.mem_singleton.mp hp]; exact le_of_eq (lv_r c j _))
    (fun g u hg => by
      obtain ⟨i, hi, rfl⟩ := owed_pos c _ l hl g u hg
      have h := Nat.blt_eq.mp hi
      rw [lv_r]; omega)

/-- The barrier may be awaited while only copies are owed. -/
theorem mayWait_bar (c : Dev nD) (l : List Act) :
    (levAts L lv : sProp 𝕄) ⊢ MayWait (c : Thread nD τ) (.reg barS) () (owed c l) := by
  have hl : ∀ l : List Act, starts (fun _ => true) l = true := by
    intro l
    induction l with
    | nil => rfl
    | cons a l ih => cases a <;> exact ih
  exact MayOwe.of_cut (L := L) (lev := lv) 1
    (fun p hp => by rw [Finset.mem_singleton.mp hp, L_tc]; exact Finset.mem_singleton_self _)
    (fun g u hg => by
      obtain ⟨i, -, rfl⟩ := owed_pos c _ l (hl l) g u hg
      rw [L_tc]; exact Finset.mem_singleton_self _)
    (fun p hp => by rw [Finset.mem_singleton.mp hp]; exact le_of_eq (lv_bar c _))
    (fun g u hg => by
      obtain ⟨i, -, rfl⟩ := owed_pos c _ l (hl l) g u hg
      rw [lv_r]; omega)

/-! ## What a device owns along the run -/

/-- Where a copy of this device's stands. -/
inductive Ph
  /-- its source is not there yet -/
  | idle
  /-- it can be started -/
  | ready
  /-- it is under way -/
  | fly
  /-- it has been read, and its semaphore is back at zero -/
  | done
  deriving DecidableEq

/-- Where a device stands: its own copies, and whether the neighbour's have been awaited. -/
structure St where
  s : Cp → Ph
  r : Cp → Bool

/-- The copy that passes on what copy `j` brings, if any. -/
def nxt (j : Cp) : Option Cp :=
  if j.2.1.val = 15 ∨ j.2.1.val = 16 then none
  else some (j.1, cond j.right (Fin.ofNat 31 (j.2.1.val + 1)) (Fin.ofNat 31 (j.2.1.val - 1)), j.2.2)

def St.send (st : St) (j : Cp) (p : Ph) : St := ⟨Function.update st.s j p, st.r⟩
def St.land (st : St) (j : Cp) : St := ⟨st.s, Function.update st.r j true⟩
/-- A landing awaited: the copy that passes it on can be started. -/
def St.pass (st : St) (j : Cp) : St := match nxt j with
  | none => st.land j
  | some i => (st.land j).send i .ready

/-- Before the run: the own block is in slot 0, so the copies that read it can be started. -/
def St.first : St := ⟨fun j => if j.2.1.val = 0 ∨ j.2.1.val = 30 then .ready else .idle, fun _ => false⟩
/-- After it. -/
def St.last : St := ⟨fun _ => .done, fun _ => true⟩

/-- Whether the steps can be taken in order from a state, to the end of the run. -/
def check : List Act → St → Bool
  | [], st => decide (∀ j, st.s j = .done ∧ st.r j = true)
  | .start j :: l, st => decide (st.s j = .ready) && check l (st.send j .fly)
  | .recv j :: l, st => (!st.r j && starts (fun i => Nat.blt j.step i.step) l
      && (match nxt j with | none => true | some i => decide (st.s i = .idle))) && check l (st.pass j)
  | .sent j :: l, st => (decide (st.s j = .fly) && starts (fun _ => false) l) && check l (st.send j .done)

theorem script_ok : check script St.first = true := by decide +kernel

/-- What a copy needs besides its source: the place it lands in, the right to pay the two semaphores. -/
def room (c : Dev nD) (j : Cp) : sProp 𝕄 :=
  iprop(free (F := F) (tgt c j.right) j.1 j.dst j.2.2 ∗ dutyTok ER (rCell (tgt c j.right) j) 0 false
    ∗ dutyTok ER (sCell c j) 0 false ∗ reached ER (rCell (tgt c j.right) j) 0 ∗ reached ER (sCell c j) 0
    ∗ atPos ER (sCell c j) 0 ∅ 0)

/-- What a device owns for one of its copies. -/
def ownS (c : Dev nD) (j : Cp) : Ph → sProp 𝕄
  | .idle => room c j
  | .ready => iprop(has Y c j.1 j.src j.2.2 (shr j) ∗ room c j)
  | .fly => iprop(atPos ER (sCell c j) 0 ∅ 0 ∗ cred (tallyAt (sCell c j) () N))
  | .done => iprop(semVal (sCell c j) 0 ∗ has Y c j.1 j.src j.2.2 (shr j))

/-- What a device owns for one landing: what it brought stays here only if it is not passed on. -/
def ownR (c : Dev nD) (j : Cp) (b : Bool) : sProp 𝕄 :=
  if b then iprop(semVal (rCell c j) 0
      ∗ (match nxt j with | none => has Y c j.1 j.dst j.2.2 fullShare | some _ => iprop(emp)))
    else iprop(atPos ER (rCell c j) 0 ∅ 0 ∗ cred (tallyAt (rCell c j) () N))

/-- What a device owns in a state of the run. -/
def own' (c : Dev nD) (st : St) : sProp 𝕄 :=
  iprop(bigSep Finset.univ (fun j => ownS Y c j (st.s j)) ∗ bigSep Finset.univ (fun j => ownR Y c j (st.r j)))

/-- The protocol's cells. -/
def cells : Finset (GSem nD τ sig) :=
  Finset.univ.image fun p : Dev nD × Option (Bool × Cp) => ((p.1 : Thread nD τ), csem p.2)

/-- Every cell's invariant, at the names `K`. -/
def invs (K : GSem nD τ sig → ℕ) : sProp 𝕄 := bigSep cells fun g => cellInv ER (talk Y) (K g) g

instance invs_persistent (K : GSem nD τ sig → ℕ) : BI.Persistent (invs Y K) := by unfold invs; infer_instance

theorem inv_at (K : GSem nD τ sig → ℕ) (c : Dev nD) (p : Option (Bool × Cp)) :
    invs Y K ⊢ cellInv ER (talk Y) (K ((c : Thread nD τ), csem p)) ((c : Thread nD τ), csem p) :=
  bigSep_elim (Finset.mem_image_of_mem (fun p : Dev nD × Option (Bool × Cp) => ((p.1 : Thread nD τ), csem p.2))
    (Finset.mem_univ (c, p)))
theorem inv_bar (K : GSem nD τ sig → ℕ) (c : Dev nD) : invs Y K ⊢ cellInv ER (talk Y) (K (barCell c)) (barCell c) :=
  inv_at Y K c none
theorem inv_s (K : GSem nD τ sig → ℕ) (c : Dev nD) (j : Cp) : invs Y K ⊢ cellInv ER (talk Y) (K (sCell c j)) (sCell c j) :=
  inv_at Y K c (some (false, j))
theorem inv_r (K : GSem nD τ sig → ℕ) (c : Dev nD) (j : Cp) : invs Y K ⊢ cellInv ER (talk Y) (K (rCell c j)) (rCell c j) :=
  inv_at Y K c (some (true, j))

end Cert.KernelIdeal.Ring
-- ==== Proof.Steps.lean ====
/- The run of copies, step by step: the rule of each kind of step, and by induction the rule of a whole list of
   steps that the state of the device allows. -/
module

public import proofs.«01_k».proof.Proof.Protocol

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (Y : Blocks F)

/-! ## Contents -/

/-- A column of half `s`, among all the slot's columns. -/
def col (s : Fin 2) (b : Fin 1024) : Fin 2048 := ⟨1024 * s.val + b.val, by have h1 := s.2; have h2 := b.2; omega⟩

/-- What half a slot holds, spelled out. -/
theorem part_eq (w : Bool) (c : Dev nD) (k : Fin 32) (s : Fin 2) (i : S1x64x1024.Idx) :
    part Y w c k s i = Y w (org c k) (i 1) (col s (i 2)) := by
  have h0 : (rct k s).emb i 0 = k := Fin.ext (by
    have h : (i 0).val < 1 := (i 0).2
    show k.val + 1 * (i 0).val = k.val; omega)
  have h1 : (rct k s).emb i 1 = i 1 := Fin.ext (by show 0 + 1 * (i 1).val = (i 1).val; omega)
  have h2 : (rct k s).emb i 2 = col s (i 2) :=
    Fin.ext (by show 1024 * s.val + 1 * (i 2).val = 1024 * s.val + (i 2).val; omega)
  show Y w (org c ((rct k s).emb i 0)) ((rct k s).emb i 1) ((rct k s).emb i 2) = _
  rw [h0, h1, h2]

/-- What a copy brings is what belongs where it lands. -/
theorem part_tgt (c : Dev nD) (j : Cp) :
    part Y j.1 (tgt c j.right) j.dst j.2.2 = part Y j.1 c j.src j.2.2 := by
  funext i
  rw [part_eq, part_eq, org_tgt]

/-- The half slot named by a copy, its unit axis dropped, is the same elements. -/
theorem piece_read (w : Bool) (k : Fin 32) (s : Fin 2) (f : (half w k s).view.ty.Contents (Elt F)) (i : S64x1024.Idx) :
    (piece (B w) k s).view.read (Elt F) f i
      = (half w k s).view.read (Elt F) f (Shape.reshapeEquiv squeezes_S1x64x1024_S64x1024.numel_eq i) := rfl

theorem landed (w : Bool) (k k' : Fin 32) (s : Fin 2) (fd : (half w k' s).view.ty.Contents (Elt F))
    (fs : (half w k s).view.ty.Contents (Elt F)) :
    (half w k' s).view.read (Elt F) ((piece (B w) k' s).view.write (Elt F) fd ((piece (B w) k s).view.read (Elt F) fs) Finset.univ)
      = (half w k s).view.read (Elt F) fs := by
  funext x
  obtain ⟨i, rfl⟩ := (Shape.reshapeEquiv squeezes_S1x64x1024_S64x1024.numel_eq).surjective x
  rw [← piece_read, ← piece_read, View.read_write_univ]

/-! ## The steps -/

/- The invariants of the copies' cells, as one persistent assertion `I` that gives each of them. -/
variable (K : GSem nD τ sig → ℕ) (I : sProp (MT nD τ sig Unit (Elt F) ℕ UU ℕ)) [BI.Persistent I]
  (hS : ∀ c j, I ⊢ cellInv ER (talk Y) (K (sCell c j)) (sCell c j))
  (hR : ∀ c j, I ⊢ cellInv ER (talk Y) (K (rCell c j)) (rCell c j))
variable (c : Dev nD) {Q : PUnit → sProp (MT nD τ sig Unit (Elt F) ℕ UU ℕ)}

include hS hR in
/-- Starting a copy that is ready. -/
theorem start_wp (j : Cp) (O : CellTallies nD τ sig Unit) (W : Waits sig Unit)
    (k : PUnit → Prog (TpuEff nD τ sig (Elt F) Λ₀ .tc) PUnit) (hs hd he) :
    iprop(I ∗ ownS Y c j .ready ∗ owes (c : Thread nD τ) (O + tallyAt (rCell (tgt c j.right) j) () N) W)
      ⊢ iprop((ownS Y c j .fly -∗ owes (c : Thread nD τ) O W -∗ wp frame (wpE (defs₀ (F := F)) 𝒱₀ c none) Set.univ (k ⟨⟩) Q)
        -∗ wp frame (wpE (defs₀ (F := F)) 𝒱₀ c none) Set.univ
          (.op (.enqueueDma (piece (B j.1) j.src j.2.2)
            (.remote (Dev.tc (tgt c j.right)) (piece (B j.1) j.dst j.2.2) (.dma (entry (S j.1) j.row j.2.2)))
            (.dma (entry (R j.1) j.dst j.2.2)) hs hd he) k) Q) := by
  unfold ownS room
  iintro ⟨#HI, ⟨Hsrc, ⟨%X, Hdst⟩, HtR, HtS, #HrR, #HrS, Hat⟩, HO⟩ Hk
  ihave Hsrc' := (show owns (c : Thread nD τ) (half j.1 j.src j.2.2) (shr j) (part Y j.1 c j.src j.2.2)
      ⊢ iprop(∃ f, ⌜(half j.1 j.src j.2.2).view.read (Elt F) f = part Y j.1 c j.src j.2.2⌝
        ∗ ((half j.1 j.src j.2.2).view.loc (c : Thread nD τ) ↦[(half j.1 j.src j.2.2).view.set]{shr j} f)) from .rfl) $$ Hsrc
  icases Hsrc' with ⟨%fs, %hfs, Hsrc⟩
  ihave Hdst' := (show owns (tgt c j.right : Thread nD τ) (half j.1 j.dst j.2.2) fullShare X
      ⊢ iprop(∃ f, ⌜(half j.1 j.dst j.2.2).view.read (Elt F) f = X⌝
        ∗ ((half j.1 j.dst j.2.2).view.loc (tgt c j.right : Thread nD τ) ↦[(half j.1 j.dst j.2.2).view.set]{fullShare} f)) from .rfl) $$ Hdst
  icases Hdst' with ⟨%fd, %hfd, Hdst⟩
  have hset (w : Bool) (k : Fin 32) (s : Fin 2) : (piece (B w) k s).view.set = (half w k s).view.set := View.set_reshape _ _
  iapply (Rounds.wp_send_pointsTo 𝒱₀ ER (talk Y) (c : Thread nD τ) none (c' := (tgt c j.right : Thread nD τ))
      (src := piece (B j.1) j.src j.2.2) (dst := piece (B j.1) j.dst j.2.2)
      (sS := .dma (entry (S j.1) j.row j.2.2)) (sem := .dma (entry (R j.1) j.dst j.2.2)) (q := shr j) (fs := fs)
      (κ₁ := K (sCell c j)) (κ₂ := K (rCell (tgt c j.right) j)) (r₁ := 0) (r₂ := 0) (d₁ := false) (d₂ := false) (fd := fd)
      (by rw [duties_s]; exact Finset.mem_singleton_self _) (by rw [duties_r]; exact Finset.mem_singleton_self _)
      () () N (N_eq j.1 j.dst j.2.2) (amount_s Y c j _) (amount_r Y _ j _) O rfl (W := W)
      (by rw [payload_s, hset]
          iintro H
          unfold has owns
          iexists fs
          isplitr; · ipureintro; exact hfs
          iexact H)
      (by rw [payload_r, hset]
          iintro H
          unfold has owns
          iexists _
          isplitr
          · ipureintro
            exact (landed j.1 j.src j.dst j.2.2 fd fs).trans (hfs.trans (part_tgt Y c j).symm)
          iexact H)) $$ [Hsrc Hdst HO HtR HtS]
  · isplitr; · iapply (hS c j); iexact HI
    isplitr; · iapply (hR (tgt c j.right) j); iexact HI
    isplitl [Hsrc]; · rw [hset]; iexact Hsrc
    isplitl [Hdst]; · rw [hset]; iexact Hdst
    isplitl [HO]; · iexact HO
    isplitl [HtS]; · iexact HtS
    isplitr; · iexact HrS
    isplitl [HtR]; · iexact HtR
    iexact HrR
  iintro ⟨Hc, HO⟩
  iapply Hk $$ [Hat Hc] HO
  isplitl [Hat]; · iexact Hat
  iexact Hc

theorem closing_cell (κ : ℕ) (g : GSem nD τ sig) :
    iprop(cellInv ER (talk Y) κ g ∗ atPos ER g (0 + 1) ∅ 0) ⊢ (|={Set.univ}=> semVal g 0 : sProp 𝕄) :=
  Rounds.cell_close ER (talk Y) (Set.mem_univ κ) id (duties_later Y g)

include hS in
/-- Waiting for a copy of one's own to have been read, owing nothing. -/
theorem sent_wp (j : Cp) (W : Waits sig Unit)
    (k : PUnit → Prog (TpuEff nD τ sig (Elt F) Λ₀ .tc) PUnit) (hs hd) :
    iprop(I ∗ ownS Y c j .fly ∗ owes (c : Thread nD τ) 0 W)
      ⊢ iprop((∀ W', ownS Y c j .done -∗ owes (c : Thread nD τ) 0 W' -∗ wp frame (wpE (defs₀ (F := F)) 𝒱₀ c none) Set.univ (k ⟨⟩) Q)
        -∗ wp frame (wpE (defs₀ (F := F)) 𝒱₀ c none) Set.univ
          (.op (.waitDma2 (entry (S j.1) j.row j.2.2) (piece (B j.1) j.dst j.2.2) (piece (B j.1) j.src j.2.2) hs hd) k) Q) := by
  unfold ownS
  iintro ⟨#HI, ⟨Hat, Hc⟩, HO⟩ Hk
  ihave #HIs := (hS c j) $$ HI
  iapply (Rounds.wp_wait_rest_token 𝒱₀ ER (talk Y) (c : Thread nD τ) none (κ := K (sCell c j))
      (wpE_waitDma2_eq (sem := entry (S j.1) j.row j.2.2) (src := piece (B j.1) j.dst j.2.2) (dst := piece (B j.1) j.src j.2.2)
        (hsrc := hs) (hdst := hd) 𝒱₀ (c : Thread nD τ) none Set.univ) (Set.mem_univ _) () (O := 0) (W := W) (R := 0) (m := 0) (T := ∅)
      ((Nat.zero_add _).trans ((N_eq j.1 j.src j.2.2).trans (expect_s Y c j).symm))) $$ [Hat Hc HO]
  · isplitr; · iexact HIs
    isplitl [Hc]; · rw [N_eq]; iexact Hc
    isplitl [HO]; · iexact HO
    isplitr; · rw [MayWait_zero]; iempintro
    iexact Hat
  iintro ⟨HO, Hat, -, Hpay⟩
  ihave Hsrc := (Entails.of_eq (rest_s Y c j)) $$ Hpay
  imod (closing_cell Y (K (sCell c j)) (sCell c j)) $$ [Hat] with Hv
  · isplitr; · iexact HIs
    iexact Hat
  iapply Hk $$ [Hv Hsrc] HO
  isplitl [Hv]; · iexact Hv
  iexact Hsrc

include hR in
/-- Waiting for a landing, while only copies of later steps are owed. -/
theorem recv_wp (j : Cp) (l : List Act) (hl : starts (fun i => Nat.blt j.step i.step) l = true) (W : Waits sig Unit)
    (k : PUnit → Prog (TpuEff nD τ sig (Elt F) Λ₀ .tc) PUnit) (hs hd) :
    iprop(I ∗ levAts L lv ∗ ownR Y c j false ∗ owes (c : Thread nD τ) (owed c l) W)
      ⊢ iprop((∀ W', semVal (rCell c j) 0 -∗ has Y c j.1 j.dst j.2.2 fullShare -∗ owes (c : Thread nD τ) (owed c l) W'
            -∗ wp frame (wpE (defs₀ (F := F)) 𝒱₀ c none) Set.univ (k ⟨⟩) Q)
        -∗ wp frame (wpE (defs₀ (F := F)) 𝒱₀ c none) Set.univ
          (.op (.waitDma2 (entry (R j.1) j.dst j.2.2) (piece (B j.1) j.src j.2.2) (piece (B j.1) j.dst j.2.2) hs hd) k) Q) := by
  unfold ownR
  rw [if_neg Bool.false_ne_true]
  iintro ⟨#HI, #Hlev, ⟨Hat, Hc⟩, HO⟩ Hk
  ihave #HIr := (hR c j) $$ HI
  iapply (Rounds.wp_wait_rest_token 𝒱₀ ER (talk Y) (c : Thread nD τ) none (κ := K (rCell c j))
      (wpE_waitDma2_eq (sem := entry (R j.1) j.dst j.2.2) (src := piece (B j.1) j.src j.2.2) (dst := piece (B j.1) j.dst j.2.2)
        (hsrc := hs) (hdst := hd) 𝒱₀ (c : Thread nD τ) none Set.univ) (Set.mem_univ _) () (O := owed c l) (W := W) (R := 0) (m := 0) (T := ∅)
      ((Nat.zero_add _).trans ((N_eq j.1 j.dst j.2.2).trans (expect_r Y c j).symm))) $$ [Hat Hc HO]
  · isplitr; · iexact HIr
    isplitl [Hc]; · rw [N_eq]; iexact Hc
    isplitl [HO]; · iexact HO
    isplitr; · iapply (mayWait_r c j l hl); iexact Hlev
    iexact Hat
  iintro ⟨HO, Hat, -, Hpay⟩
  ihave Hdst := (Entails.of_eq (rest_r Y c j)) $$ Hpay
  imod (closing_cell Y (K (rCell c j)) (rCell c j)) $$ [Hat] with Hv
  · isplitr; · iexact HIr
    iexact Hat
  iapply Hk $$ Hv Hdst HO

/-! ## A list of steps -/

omit I in
/-- What is owned for one copy, and the rest whatever becomes of that copy. -/
theorem own_send (c : Dev nD) (st : St) (j : Cp) :
    own' Y c st ⊢ iprop(ownS Y c j (st.s j) ∗ ∀ p, ownS Y c j p -∗ own' Y c (st.send j p)) := by
  unfold own'
  rw [bigSep_univ_at (fun j => ownS Y c j (st.s j)) j]
  iintro ⟨⟨Hj, Hs⟩, Hr⟩
  isplitl [Hj]; · iexact Hj
  iintro %p Hp
  isplitr [Hr]
  · rw [bigSep_univ_at (fun i => ownS Y c i ((st.send j p).s i)) j]
    isplitl [Hp]
    · rw [show (st.send j p).s j = p from Function.update_self ..]; iexact Hp
    · iapply (Entails.of_eq (bigSep_congr (s := Finset.univ.erase j) (Φ := fun i => ownS Y c i (st.s i))
        (Ψ := fun i => ownS Y c i ((st.send j p).s i)) fun i hi => by
          rw [show (st.send j p).s i = st.s i from Function.update_of_ne (Finset.ne_of_mem_erase hi) ..]))
      iexact Hs
  · iexact Hr

omit I in
/-- What is owned for one landing, and the rest once it is awaited. -/
theorem own_land (c : Dev nD) (st : St) (j : Cp) :
    own' Y c st ⊢ iprop(ownR Y c j (st.r j) ∗ (ownR Y c j true -∗ own' Y c (st.land j))) := by
  unfold own'
  rw [bigSep_univ_at (fun j => ownR Y c j (st.r j)) j]
  iintro ⟨Hs, ⟨Hj, Hr⟩⟩
  isplitl [Hj]; · iexact Hj
  iintro Hp
  isplitl [Hs]; · iexact Hs
  rw [bigSep_univ_at (fun i => ownR Y c i ((st.land j).r i)) j]
  isplitl [Hp]
  · rw [show (st.land j).r j = true from Function.update_self ..]; iexact Hp
  · iapply (Entails.of_eq (bigSep_congr (s := Finset.univ.erase j) (Φ := fun i => ownR Y c i (st.r i))
      (Ψ := fun i => ownR Y c i ((st.land j).r i)) fun i hi => by
        rw [show (st.land j).r i = st.r i from Function.update_of_ne (Finset.ne_of_mem_erase hi) ..]))
    iexact Hr

/-- The copy that passes a landing on is read where the landing came, whole. -/
theorem nxt_src (j i : Cp) (h : nxt j = some i) : i.1 = j.1 ∧ i.src = j.dst ∧ i.2.2 = j.2.2 ∧ shr i = fullShare := by
  revert i; revert j
  have h : ∀ j : Cp, ∀ i, nxt j = some i → i.1 = j.1 ∧ i.src = j.dst ∧ i.2.2 = j.2.2 ∧ i.2.1 ≠ 0 ∧ i.2.1 ≠ 30 := by
    intro j
    have : (nxt j).all (fun i => decide (i.1 = j.1 ∧ i.src = j.dst ∧ i.2.2 = j.2.2 ∧ i.2.1 ≠ 0 ∧ i.2.1 ≠ 30)) = true := by
      revert j; decide +kernel
    intro i hi
    rw [hi] at this
    exact of_decide_eq_true this
  intro j i hi
  obtain ⟨h1, h2, h3, h4, h5⟩ := h j i hi
  refine ⟨h1, h2, h3, ?_⟩
  unfold shr
  rw [if_neg h4, if_neg h5]

omit I in
theorem has_nxt (c : Dev nD) (j i : Cp) (h : nxt j = some i) :
    (has Y c j.1 j.dst j.2.2 fullShare : sProp 𝕄) = has Y c i.1 i.src i.2.2 (shr i) := by
  obtain ⟨h1, h2, h3, h4⟩ := nxt_src j i h
  rw [h1, h2, h3, h4]

omit I in
theorem ownS_ready (c : Dev nD) (i : Cp) :
    ownS Y c i .ready = iprop(has Y c i.1 i.src i.2.2 (shr i) ∗ ownS Y c i .idle) := rfl

omit I in
/-- A landing awaited, in the state. -/
theorem own_pass (c : Dev nD) (st : St) (j : Cp)
    (hn : (match nxt j with | none => true | some i => decide (st.s i = .idle)) = true) :
    own' Y c st ⊢ iprop(ownR Y c j (st.r j)
      ∗ (semVal (rCell c j) 0 -∗ has Y c j.1 j.dst j.2.2 fullShare -∗ own' Y c (st.pass j))) := by
  iintro H
  ihave H' := (own_land Y c st j) $$ H
  icases H' with ⟨Hj, Hrest⟩
  isplitl [Hj]; · iexact Hj
  iintro Hv Hd
  unfold St.pass
  cases hx : nxt j with
  | none =>
    iapply Hrest
    unfold ownR
    rw [if_pos rfl, hx]
    isplitl [Hv]; · iexact Hv
    iexact Hd
  | some i =>
    rw [hx] at hn
    have hi : st.s i = .idle := of_decide_eq_true hn
    ihave Hst := Hrest $$ [Hv]
    · unfold ownR
      rw [if_pos rfl, hx]
      isplitl [Hv]; · iexact Hv
      iempintro
    ihave Hst' := (own_send Y c (st.land j) i) $$ Hst
    icases Hst' with ⟨Hi, Hrest⟩
    iapply Hrest
    rw [show (st.land j).s i = .idle from hi, has_nxt Y c j i hx]
    rw [ownS_ready]
    exact .rfl

include hS hR in
/-- The run of a list of steps the state allows. -/
theorem run_wp (q : Prog (TpuEff nD τ sig (Elt F) Λ₀ .tc) PUnit) (l : List Act) :
    ∀ (st : St) (W : Waits sig Unit), check l st = true →
    iprop(I ∗ levAts L lv ∗ own' Y c st ∗ owes (c : Thread nD τ) (owed c l) W)
      ⊢ iprop((∀ W', own' Y c St.last -∗ owes (c : Thread nD τ) 0 W' -∗ wp frame (wpE (defs₀ (F := F)) 𝒱₀ c none) Set.univ q Q)
        -∗ wp frame (wpE (defs₀ (F := F)) 𝒱₀ c none) Set.univ (run B hB S R (nx c) (pv c) l q) Q) := by
  induction l with
  | nil =>
    intro st W hc
    have hst : st = St.last := by
      have h := of_decide_eq_true (show decide (∀ j, st.s j = .done ∧ st.r j = true) = true from hc)
      obtain ⟨s, r⟩ := st
      unfold St.last
      congr 1
      · exact funext fun j => (h j).1
      · exact funext fun j => (h j).2
    rw [hst, show owed c [] = 0 from rfl]
    iintro ⟨HI, Hlev, Ho, HO⟩ Hk
    iapply Hk $$ Ho HO
  | cons a l ih =>
    intro st W hc
    cases a with
    | start j =>
      have hc' := (Bool.and_eq_true _ _).mp (show (decide (st.s j = .ready) && check l (st.send j .fly)) = true from hc)
      have hj : st.s j = .ready := of_decide_eq_true hc'.1
      iintro ⟨#HI, #Hlev, Ho, HO⟩ Hk
      ihave Ho' := (own_send Y c st j) $$ Ho
      rw [hj]
      icases Ho' with ⟨Hj, Hrest⟩
      iapply (start_wp Y K I hS hR c (Q := Q) j (owed c l) W (fun _ => run B hB S R (nx c) (pv c) l q) _ _ _) $$ [Hj HO]
      · isplitr; · iexact HI
        isplitl [Hj]; · iexact Hj
        iexact HO
      iintro Hj HO
      ihave Ho := Hrest $$ Hj
      iapply (ih (st.send j .fly) W hc'.2) $$ [Ho HO]
      · isplitr; · iexact HI
        isplitr; · iexact Hlev
        isplitl [Ho]; · iexact Ho
        iexact HO
      iexact Hk
    | sent j =>
      have hc' := (Bool.and_eq_true _ _).mp (show ((decide (st.s j = .fly) && starts (fun _ => false) l) && check l (st.send j .done)) = true from hc)
      have hc1 := (Bool.and_eq_true _ _).mp hc'.1
      have hj : st.s j = .fly := of_decide_eq_true hc1.1
      have h0 : owed c l = 0 := owed_none c l hc1.2
      rw [show owed c (.sent j :: l) = 0 from h0]
      rw [h0] at ih
      iintro ⟨#HI, #Hlev, Ho, HO⟩ Hk
      ihave Ho' := (own_send Y c st j) $$ Ho
      rw [hj]
      icases Ho' with ⟨Hj, Hrest⟩
      iapply (sent_wp Y K I hS c (Q := Q) j W (fun _ => run B hB S R (nx c) (pv c) l q) _ _) $$ [Hj HO]
      · isplitr; · iexact HI
        isplitl [Hj]; · iexact Hj
        iexact HO
      iintro %W' Hj HO
      ihave Ho := Hrest $$ Hj
      iapply (ih (st.send j .done) W' hc'.2) $$ [Ho HO]
      · isplitr; · iexact HI
        isplitr; · iexact Hlev
        isplitl [Ho]; · iexact Ho
        iexact HO
      iexact Hk
    | recv j =>
      have hc' := (Bool.and_eq_true _ _).mp (show ((!st.r j && starts (fun i => Nat.blt j.step i.step) l
        && (match nxt j with | none => true | some i => decide (st.s i = .idle))) && check l (st.pass j)) = true from hc)
      have hc1 := (Bool.and_eq_true _ _).mp hc'.1
      have hc2 := (Bool.and_eq_true _ _).mp hc1.1
      have hj : st.r j = false := by simpa using hc2.1
      iintro ⟨#HI, #Hlev, Ho, HO⟩ Hk
      ihave Ho' := (own_pass Y c st j hc1.2) $$ Ho
      rw [hj]
      icases Ho' with ⟨Hj, Hrest⟩
      iapply (recv_wp Y K I hR c (Q := Q) j l hc2.2 W (fun _ => run B hB S R (nx c) (pv c) l q) _ _) $$ [Hj HO]
      · isplitr; · iexact HI
        isplitr; · iexact Hlev
        isplitl [Hj]; · iexact Hj
        iexact HO
      iintro %W' Hv Hd HO
      ihave Ho := Hrest $$ Hv Hd
      iapply (ih (st.pass j) W' hc'.2) $$ [Ho HO]
      · isplitr; · iexact HI
        isplitr; · iexact Hlev
        isplitl [Ho]; · iexact Ho
        iexact HO
      iexact Hk

end Cert.KernelIdeal.Ring
-- ==== Proof.Buffers.lean ====
/- The two buffers of slots, cut up and put together: into slot 0 and the halves of the other slots before the run,
   slot 0 into what the first copies borrow, and everything back into whole buffers after the run. -/
module

public import proofs.«01_k».proof.Proof.Steps

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (Y : Blocks F) (c : Dev nD) (w : Bool)

/-! ## The halves of the slots -/

/-- What follows member by member follows for the family. -/
theorem each {I : Type} {s : Finset I} {Φ Ψ : I → sProp 𝕄} (h : ∀ i ∈ s, Φ i ⊢ Ψ i) : bigSep s Φ ⊢ bigSep s Ψ :=
  bigSep_mono h

/-- A family over two disjoint sets is the two families. -/
theorem joined {I : Type} [DecidableEq I] {s t : Finset I} (h : Disjoint s t) (Φ : I → sProp 𝕄) :
    bigSep (s ∪ t) Φ = iprop(bigSep s Φ ∗ bigSep t Φ) := bigSep_union h

/-- A family over all members is the one over those with a property and the one over the others. -/
theorem parted {I : Type} [Fintype I] [DecidableEq I] (p : I → Prop) [DecidablePred p] (Φ : I → sProp 𝕄) :
    bigSep Finset.univ Φ = iprop(bigSep (Finset.univ.filter p) Φ ∗ bigSep (Finset.univ.filter fun i => ¬p i) Φ) := by
  rw [← joined (Finset.disjoint_filter.mpr fun _ _ h h' => h' h)]
  exact congrArg (fun s => bigSep s Φ) (by ext i; by_cases h : p i <;> simp [h])

theorem mem_rct (k : Fin 32) (s : Fin 2) (i : S32x64x2048.Idx) :
    i ∈ (rct k s).set ↔ (i 0).val = k.val ∧ 1024 * s.val ≤ (i 2).val ∧ (i 2).val < 1024 * s.val + 1024 := by
  rw [Rect.mem_set_unit]
  have h1 : (i 1).val < 64 := (i 1).2
  constructor
  · intro h
    have h0 : k.val ≤ (i 0).val ∧ (i 0).val < k.val + 1 := h 0
    have h2 : 1024 * s.val ≤ (i 2).val ∧ (i 2).val < 1024 * s.val + 1024 := h 2
    exact ⟨by omega, h2⟩
  · rintro ⟨h0, h2⟩ a
    match a with
    | 0 => show k.val ≤ (i 0).val ∧ (i 0).val < k.val + 1; omega
    | 1 => show 0 ≤ (i 1).val ∧ (i 1).val < 0 + 64; omega
    | 2 => exact h2

theorem rct_disjoint (t t' : Fin 32 × Fin 2) (h : t ≠ t') : Disjoint (rct t.1 t.2).set (rct t'.1 t'.2).set := by
  rw [Finset.disjoint_left]
  intro i hi hi'
  rw [mem_rct] at hi hi'
  have hs := t.2.2; have hs' := t'.2.2
  exact h (Prod.ext (Fin.ext (by omega)) (Fin.ext (by omega)))

theorem rct_cover : (Finset.univ : Finset (Fin 32 × Fin 2)).biUnion (fun t => (rct t.1 t.2).set) = Finset.univ := by
  refine Finset.eq_univ_of_forall fun i => ?_
  have h2 : (i 2).val < 2048 := (i 2).2
  refine Finset.mem_biUnion.mpr ⟨(i 0, ⟨(i 2).val / 1024, by omega⟩), Finset.mem_univ _, (mem_rct _ _ _).mpr ⟨rfl, ?_, ?_⟩⟩
  · show 1024 * ((i 2).val / 1024) ≤ (i 2).val; omega
  · show (i 2).val < 1024 * ((i 2).val / 1024) + 1024; omega

/-- The rectangle of slot 0. -/
abbrev r0 : Rect S32x64x2048 := Rect.unit (s := S32x64x2048) ![0, 0, 0] S1x64x2048.size inb_S32x64x2048_S1x64x2048_0_0_0

theorem r0_set : r0.set = (rct 0 0).set ∪ (rct 0 1).set := by
  ext i
  have h1 : (i 1).val < 64 := (i 1).2
  have h2 : (i 2).val < 2048 := (i 2).2
  rw [Finset.mem_union, mem_rct, mem_rct, Rect.mem_set_unit]
  constructor
  · intro h
    have h0 : 0 ≤ (i 0).val ∧ (i 0).val < 0 + 1 := h 0
    show ((i 0).val = 0 ∧ 1024 * 0 ≤ (i 2).val ∧ (i 2).val < 1024 * 0 + 1024)
      ∨ ((i 0).val = 0 ∧ 1024 * 1 ≤ (i 2).val ∧ (i 2).val < 1024 * 1 + 1024)
    omega
  · intro h
    have h' : ((i 0).val = 0 ∧ 1024 * 0 ≤ (i 2).val ∧ (i 2).val < 1024 * 0 + 1024)
      ∨ ((i 0).val = 0 ∧ 1024 * 1 ≤ (i 2).val ∧ (i 2).val < 1024 * 1 + 1024) := h
    intro a
    match a with
    | 0 => show 0 ≤ (i 0).val ∧ (i 0).val < 0 + 1; omega
    | 1 => show 0 ≤ (i 1).val ∧ (i 1).val < 0 + 64; omega
    | 2 => show 0 ≤ (i 2).val ∧ (i 2).val < 0 + 2048; omega

/-- Slot 0's elements are those of its two halves. -/
theorem slot_set : ((B w).access r0).set = ((B w).view.slice (rct 0 0)).set ∪ ((B w).view.slice (rct 0 1)).set := by
  show ((B w).view.slice r0).set = _
  rw [View.set_slice, View.set_slice, View.set_slice, ← Finset.map_union, r0_set]

theorem slot_disjoint : Disjoint ((B w).view.slice (rct 0 0)).set ((B w).view.slice (rct 0 1)).set := by
  rw [View.set_slice, View.set_slice]
  exact (Finset.disjoint_map _).mpr (rct_disjoint (0, 0) (0, 1) (by decide))

/-- Slot 0 at given contents of the buffer is its two halves. -/
theorem slot_halves (g : (B w).view.ty.Contents (Elt F)) :
    ((B w).view.loc (c : Thread nD τ) ↦[((B w).access r0).set]{fullShare} g : sProp 𝕄)
      = iprop(owns (c : Thread nD τ) (half w 0 0) fullShare (fun j => (B w).view.read (Elt F) g ((rct 0 0).emb j))
        ∗ owns (c : Thread nD τ) (half w 0 1) fullShare (fun j => (B w).view.read (Elt F) g ((rct 0 1).emb j))) := by
  rw [slot_set, BI.equiv_iff.mp ⟨(pointsTo_union (slot_disjoint w)).1, (pointsTo_union (slot_disjoint w)).2⟩]
  rw [← owns_slice_read (c : Thread nD τ) (B w) fullShare (rct 0 0) (fun _ => rfl) g,
    ← owns_slice_read (c : Thread nD τ) (B w) fullShare (rct 0 1) (fun _ => rfl) g]
  rfl

/-- Slots 1 to 31, in halves. -/
def up (p : Fin 31 × Fin 2) : Fin 32 × Fin 2 := (⟨p.1.val + 1, by omega⟩, p.2)

theorem up_inj : Set.InjOn up (Finset.univ : Finset (Fin 31 × Fin 2)) := by
  rintro ⟨k, s⟩ - ⟨k', s'⟩ - h
  have h1 := congrArg (fun p => p.1.val) h
  have h2 := congrArg (fun p => p.2) h
  simp only [up] at h1 h2
  rw [h2, Fin.ext (show k.val = k'.val by omega)]

/-- A family over the halves of all slots: slots 1 to 31, and slot 0. -/
theorem halves_eq (Φ : Fin 32 × Fin 2 → sProp 𝕄) :
    bigSep Finset.univ Φ = iprop(bigSep Finset.univ (fun p => Φ (up p)) ∗ (Φ (0, 0) ∗ Φ (0, 1))) := by
  rw [bigSep_sdiff_split (Finset.subset_univ (Finset.univ.image up)), bigSep_image_of_injOn up_inj,
    show (Finset.univ : Finset (Fin 32 × Fin 2)) \ Finset.univ.image up = insert (0, 0) {(0, 1)} from by decide +kernel,
    bigSep_insert (by decide), bigSep_singleton]
  rfl

/-- A buffer at any contents: slot 0, and the halves of the others, each at any contents. -/
theorem split_free :
    iprop(∃ f, ((B w).view.loc (c : Thread nD τ) ↦[(B w).view.set]{fullShare} f : sProp 𝕄))
      ⊢ iprop((∃ f, ((B w).view.loc (c : Thread nD τ) ↦[((B w).access r0).set]{fullShare} f))
        ∗ bigSep Finset.univ (fun p : Fin 31 × Fin 2 => free (F := F) c w ⟨p.1.val + 1, by omega⟩ p.2)) := by
  iintro ⟨%f, H⟩
  ihave H' := (Entails.of_eq ((pointsTo_rects (c : Thread nD τ) (B w) fullShare (fun t : Fin 32 × Fin 2 => rct t.1 t.2)
    (fun _ _ => rfl) rct_disjoint rct_cover f).trans (halves_eq _))) $$ H
  icases H' with ⟨Hu, H0⟩
  isplitl [H0]
  · iexists f
    rw [slot_halves]
    iexact H0
  · iapply (each (fun p _ => exists_intro (Φ := fun X => owns (c : Thread nD τ) (half w (up p).1 (up p).2) fullShare X) _)) $$ Hu

/-- Every half slot at what it holds in the end: the whole buffer. -/
theorem join_full :
    bigSep Finset.univ (fun p : Fin 32 × Fin 2 => (has Y c w p.1 p.2 fullShare : sProp 𝕄))
      ⊢ iprop(∃ f, ⌜(B w).view.read (Elt F) f = full Y w c⌝ ∗ ((B w).view.loc (c : Thread nD τ) ↦[(B w).view.set]{fullShare} f)) :=
  owns_of_rects (c : Thread nD τ) (B w) fullShare (fun t : Fin 32 × Fin 2 => rct t.1 t.2)
    (fun _ _ => rfl) rct_disjoint rct_cover (full Y w c)

/-! ## What the first copies borrow -/

/-- The two shares of half a slot. -/
theorem has_shares (k : Fin 32) (s : Fin 2) :
    (has Y c w k s fullShare : sProp 𝕄) ⊢ iprop(has Y c w k s fullShare.left ∗ has Y c w k s fullShare.right) := by
  iintro H
  ihave H' := (show (has Y c w k s fullShare : sProp 𝕄) ⊢ iprop(∃ f, ⌜(half w k s).view.read (Elt F) f = part Y w c k s⌝
    ∗ ((half w k s).view.loc (c : Thread nD τ) ↦[(half w k s).view.set]{fullShare} f)) from .rfl) $$ H
  icases H' with ⟨%f, %hf, H⟩
  ihave H' := (pointsTo_share (PosShare.mem_left_op_right fullShare)).1 $$ H
  icases H' with ⟨Hl, Hr⟩
  unfold has owns
  isplitl [Hl]
  · iexists f; isplitr; · ipureintro; exact hf
    iexact Hl
  · iexists f; isplitr; · ipureintro; exact hf
    iexact Hr

/-- and back. -/
theorem shares_has (k : Fin 32) (s : Fin 2) :
    iprop(has Y c w k s fullShare.left ∗ has Y c w k s fullShare.right) ⊢ (has Y c w k s fullShare : sProp 𝕄) := by
  iintro ⟨Hl, Hr⟩
  ihave Hl' := (show (has Y c w k s fullShare.left : sProp 𝕄) ⊢ iprop(∃ f, ⌜(half w k s).view.read (Elt F) f = part Y w c k s⌝
    ∗ ((half w k s).view.loc (c : Thread nD τ) ↦[(half w k s).view.set]{fullShare.left} f)) from .rfl) $$ Hl
  icases Hl' with ⟨%f, %hf, Hl⟩
  ihave Hr' := (show (has Y c w k s fullShare.right : sProp 𝕄) ⊢ iprop(∃ f, ⌜(half w k s).view.read (Elt F) f = part Y w c k s⌝
    ∗ ((half w k s).view.loc (c : Thread nD τ) ↦[(half w k s).view.set]{fullShare.right} f)) from .rfl) $$ Hr
  icases Hr' with ⟨%g, %hg, Hr⟩
  have e : ((half w k s).view.loc (c : Thread nD τ) ↦[(half w k s).view.set]{fullShare.right} g : sProp 𝕄)
      = ((half w k s).view.loc (c : Thread nD τ) ↦[(half w k s).view.set]{fullShare.right} f) :=
    pointsTo_congr fun i hi => by
      rw [View.set, Finset.mem_map] at hi
      obtain ⟨x, -, rfl⟩ := hi
      have h := (congrFun hg x).trans (congrFun hf x).symm
      simp only [View.read] at h
      exact (cast_inj _).mp h
  ihave Hr := (Entails.of_eq e) $$ Hr
  unfold has owns
  iexists f
  isplitr; · ipureintro; exact hf
  iapply (pointsTo_share (PosShare.mem_left_op_right fullShare)).2
  isplitl [Hl]; · iexact Hl
  iexact Hr

/-- The first copies: to the right (`true`) and to the left, of each buffer, of each half. -/
def firsts (p : (Bool × Fin 2) × Bool) : Cp := (p.1.1, cond p.2 0 30, p.1.2)

theorem firsts_inj : Set.InjOn firsts (Finset.univ : Finset ((Bool × Fin 2) × Bool)) := by
  intro p _ q _; revert p q; decide

abbrev isFirst (j : Cp) : Prop := j.2.1.val = 0 ∨ j.2.1.val = 30

theorem firsts_image : Finset.univ.filter isFirst = Finset.univ.image firsts := by decide +kernel

theorem has_first (p : Bool × Fin 2) (b : Bool) :
    (has Y c (firsts (p, b)).1 (firsts (p, b)).src (firsts (p, b)).2.2 (shr (firsts (p, b))) : sProp 𝕄)
      = has Y c p.1 0 p.2 (cond b fullShare.left fullShare.right) := by
  have e1 : ∀ p b, (firsts (p, b)).src = 0 := by decide
  have e2 : shr (firsts (p, b)) = cond b fullShare.left fullShare.right := by
    cases b
    · exact (if_neg (show ¬(30 : Fin 31) = 0 by decide)).trans (if_pos (show (30 : Fin 31) = 30 from rfl))
    · exact if_pos rfl
  rw [e1, e2]
  rfl

theorem firsts_sep : bigSep (Finset.univ.filter isFirst) (fun j => (has Y c j.1 j.src j.2.2 (shr j) : sProp 𝕄))
    = bigSep Finset.univ (fun p : Bool × Fin 2 => iprop(has Y c p.1 0 p.2 fullShare.left ∗ has Y c p.1 0 p.2 fullShare.right)) := by
  rw [firsts_image, bigSep_image_of_injOn firsts_inj, bigSep_univ_prod]
  refine bigSep_congr fun p _ => ?_
  rw [show (Finset.univ : Finset Bool) = insert true {false} from rfl, bigSep_insert (by decide), bigSep_singleton,
    has_first, has_first]
  rfl

/-- Before the run: slot 0 at the own block and everything else each copy and each landing needs. -/
theorem own_first :
    iprop(bigSep Finset.univ (fun p : Bool × Fin 2 => (has Y c p.1 0 p.2 fullShare : sProp 𝕄))
        ∗ bigSep Finset.univ (fun j => room (F := F) c j) ∗ bigSep Finset.univ (fun j => ownR Y c j false))
      ⊢ own' Y c St.first := by
  have h : bigSep Finset.univ (fun j => ownS Y c j (St.first.s j))
      = iprop(bigSep (Finset.univ.filter isFirst) (fun j => (has Y c j.1 j.src j.2.2 (shr j) : sProp 𝕄))
        ∗ bigSep Finset.univ (fun j => room (F := F) c j)) := by
    rw [bigSep_filter, ← bigSep_sep']
    refine bigSep_congr fun j _ => ?_
    by_cases hj : isFirst j
    · rw [show St.first.s j = .ready from if_pos hj, if_pos hj]; rfl
    · rw [show St.first.s j = .idle from if_neg hj, if_neg hj]
      exact (BI.equiv_iff.mp emp_sep).symm
  unfold own'
  rw [h, firsts_sep]
  iintro ⟨H0, Hm, Hr⟩
  isplitr [Hr]
  · isplitl [H0]
    · iapply (each (fun p _ => has_shares Y c p.1 0 p.2)) $$ H0
    · iexact Hm
  · iexact Hr

/-! ## After the run -/

/-- The half slot a copy is read from, -/
def srcs (j : Cp) : Bool × Fin 32 × Fin 2 := (j.1, j.src, j.2.2)
/-- and the one it lands in. -/
def dsts (j : Cp) : Bool × Fin 32 × Fin 2 := (j.1, j.dst, j.2.2)

abbrev isLast (j : Cp) : Prop := j.2.1.val = 15 ∨ j.2.1.val = 16

theorem srcs_inj : Set.InjOn srcs (Finset.univ.filter fun j => ¬isFirst j) := by
  rintro ⟨w, k, s⟩ h ⟨w', k', s'⟩ h' he
  have hk := k.2; have hk' := k'.2
  have h1 : ¬(k.val = 0 ∨ k.val = 30) := (Finset.mem_filter.mp (Finset.mem_coe.mp h)).2
  have h1' : ¬(k'.val = 0 ∨ k'.val = 30) := (Finset.mem_filter.mp (Finset.mem_coe.mp h')).2
  have e1 := congrArg (fun p => p.1) he
  have e2 := congrArg (fun p => p.2.1.val) he
  have e3 := congrArg (fun p => p.2.2) he
  simp only [srcs, Cp.src, Cp.right, Bool.cond_decide] at e1 e2 e3
  rw [e1, e3, Fin.ext (show k.val = k'.val by split at e2 <;> split at e2 <;> omega)]

theorem dsts_inj : Set.InjOn dsts (Finset.univ.filter isLast) := by
  rintro ⟨w, k, s⟩ h ⟨w', k', s'⟩ h' he
  have e1 := congrArg (fun p => p.1) he
  have e2 := congrArg (fun p => p.2.1.val) he
  have e3 := congrArg (fun p => p.2.2) he
  simp only [dsts, Cp.dst] at e1 e2 e3
  rw [e1, e3, Fin.ext (show k.val = k'.val by omega)]

def zeros (p : Bool × Fin 2) : Bool × Fin 32 × Fin 2 := (p.1, 0, p.2)
theorem zeros_inj : Set.InjOn zeros (Finset.univ : Finset (Bool × Fin 2)) := by
  intro p _ q _; revert p q; decide

/-- Every half slot is slot 0's, or the source of one later copy, or where a last copy landed. -/
theorem all_halves : (Finset.univ : Finset (Bool × Fin 32 × Fin 2))
    = Finset.univ.image zeros ∪ ((Finset.univ.filter fun j => ¬isFirst j).image srcs ∪ (Finset.univ.filter isLast).image dsts) := by
  decide +kernel
theorem halves_disj : Disjoint ((Finset.univ.filter fun j => ¬isFirst j).image srcs) ((Finset.univ.filter isLast).image dsts) := by
  decide +kernel
theorem halves_disj' : Disjoint (Finset.univ.image zeros)
    ((Finset.univ.filter fun j => ¬isFirst j).image srcs ∪ (Finset.univ.filter isLast).image dsts) := by
  decide +kernel

theorem shr_later (j : Cp) (h : ¬isFirst j) : shr j = fullShare := by
  unfold shr
  rw [if_neg fun e => h (.inl (by rw [e]; rfl)), if_neg fun e => h (.inr (by rw [e]; rfl))]

/-- After the run: every half slot at what belongs there, and the semaphores at zero. -/
theorem own_last :
    own' Y c St.last ⊢ iprop(bigSep Finset.univ (fun p : Bool × Fin 32 × Fin 2 => (has Y c p.1 p.2.1 p.2.2 fullShare : sProp 𝕄))
      ∗ bigSep Finset.univ (fun j => semVal (sCell c j) 0) ∗ bigSep Finset.univ (fun j => semVal (rCell c j) 0)) := by
  have hs : bigSep Finset.univ (fun j => ownS Y c j (St.last.s j))
      = iprop(bigSep Finset.univ (fun j => semVal (sCell c j) 0)
        ∗ bigSep Finset.univ (fun j => (has Y c j.1 j.src j.2.2 (shr j) : sProp 𝕄))) := by
    rw [← bigSep_sep']; rfl
  have hr : bigSep Finset.univ (fun j => ownR Y c j (St.last.r j))
      = iprop(bigSep Finset.univ (fun j => semVal (rCell c j) 0)
        ∗ bigSep (Finset.univ.filter isLast) (fun j => (has Y c j.1 j.dst j.2.2 fullShare : sProp 𝕄))) := by
    rw [bigSep_filter, ← bigSep_sep']
    refine bigSep_congr fun j _ => ?_
    unfold ownR
    rw [show St.last.r j = true from rfl, if_pos rfl]
    by_cases hj : isLast j
    · rw [if_pos hj, show nxt j = none from if_pos hj]
    · rw [if_neg hj, show nxt j = _ from if_neg hj]; rfl
  unfold own'
  rw [hs, hr, all_halves, joined halves_disj', joined halves_disj, bigSep_image_of_injOn zeros_inj,
    bigSep_image_of_injOn srcs_inj, bigSep_image_of_injOn dsts_inj,
    parted isFirst (fun j => (has Y c j.1 j.src j.2.2 (shr j) : sProp 𝕄)), firsts_sep]
  iintro ⟨⟨Hvs, H0, Hl⟩, Hvr, Hd⟩
  isplitr [Hvs Hvr]
  · isplitl [H0]
    · iapply (each (fun p _ => shares_has Y c p.1 0 p.2)) $$ H0
    isplitl [Hl]
    · iapply (each (fun j hj => Entails.of_eq (by rw [shr_later j (Finset.mem_filter.mp hj).2]; rfl))) $$ Hl
    · iexact Hd
  · isplitl [Hvs]; · iexact Hvs
    iexact Hvr

end Cert.KernelIdeal.Ring
-- ==== Proof.Opening.lean ====
/- The opening of a device's run: it hands its slots to its neighbours with two signals, waits for theirs, and puts its
   own block into slot 0 of each buffer. -/
module

public import proofs.«01_k».proof.Proof.Buffers

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (Y : Blocks F)

/-! ## The neighbours' numbers as the body reads them -/

/-- A device's number as a word. -/
def word (d : Dev nD) : Elt F .i32 := (BitVec.ofNat 32 d.val : BitVec 32)

theorem chk1_ok (d : Dev nD) : k0_chk1 (BitVec.ofNat 32 d.val) := by
  have h : ∀ d : Dev nD, (Scalar.addi 0#32 (Scalar.muli (BitVec.ofNat 32 d.val) 1#32)).toNat < nD := by decide +kernel
  unfold k0_chk1 k0_chk1_0 k0_chk1_1
  have := h d
  repeat' apply And.intro
  all_goals exact this

theorem chk2_ok (d : Dev nD) : k0_chk2 (BitVec.ofNat 32 d.val) := by
  have h : ∀ d : Dev nD, (Scalar.addi 0#32 (Scalar.muli (BitVec.ofNat 32 d.val) 1#32)).toNat < nD := by decide +kernel
  unfold k0_chk2 k0_chk2_0 k0_chk2_1
  have := h d
  repeat' apply And.intro
  all_goals exact this

theorem dev1_eq (d : Dev nD) (h) : (⟨k0_dev1 (BitVec.ofNat 32 d.val), h⟩ : Dev nD) = d := by
  have h' : ∀ d : Dev nD, (Scalar.addi 0#32 (Scalar.muli (BitVec.ofNat 32 d.val) 1#32)).toNat = d.val := by decide +kernel
  exact Fin.ext (h' d)
theorem dev2_eq (d : Dev nD) (h) : (⟨k0_dev2 (BitVec.ofNat 32 d.val), h⟩ : Dev nD) = d := dev1_eq d h

variable (c : Dev nD) (w : Bool)

/-! ## Slots handed to the neighbours, and theirs received -/

/-- The halves of slots 1 to 31 of both buffers, one for each copy that lands on the device. -/
theorem frees_eq : iprop(bigSep Finset.univ (fun p : Fin 31 × Fin 2 => free (F := F) c false ⟨p.1.val + 1, by omega⟩ p.2)
      ∗ bigSep Finset.univ (fun p : Fin 31 × Fin 2 => free (F := F) c true ⟨p.1.val + 1, by omega⟩ p.2))
    = bigSep Finset.univ (fun j : Cp => free (F := F) c j.1 j.dst j.2.2) := by
  have h := bigSep_univ_prod (fun j : Cp => free (F := F) c j.1 j.dst j.2.2)
  rw [show (Finset.univ : Finset Bool) = insert false {true} from by decide, bigSep_insert (by decide), bigSep_singleton] at h
  exact h.symm

/-- What a device pays to its neighbours' barriers: the slots their copies land in. -/
theorem pays : iprop(bigSep Finset.univ (fun j : Cp => free (F := F) c j.1 j.dst j.2.2)
      ∗ bigSep Finset.univ (fun j : Cp => reached ER (rCell c j) 0))
    ⊢ iprop(barPay (F := F) (pv c) true ∗ barPay (F := F) (nx c) false) := by
  have e (b : Bool) (d : Dev nD) (h : tgt d b = c) :
      bigSep (Finset.univ.filter fun j : Cp => j.right = b)
        (fun j => iprop(free (F := F) c j.1 j.dst j.2.2 ∗ reached ER (rCell c j) 0)) = barPay (F := F) d b := by
    subst h; rfl
  have h : iprop(bigSep Finset.univ (fun j : Cp => free (F := F) c j.1 j.dst j.2.2)
      ∗ bigSep Finset.univ (fun j : Cp => reached ER (rCell c j) 0))
      = iprop(barPay (F := F) (pv c) true ∗ barPay (F := F) (nx c) false) := by
    rw [← bigSep_sep', parted (fun j : Cp => j.right = true), e true (pv c) (nx_pv c),
      show (Finset.univ.filter fun j : Cp => ¬j.right = true) = Finset.univ.filter fun j : Cp => j.right = false from
        Finset.filter_congr fun j _ => by simp, e false (nx c) (pv_nx c)]
  exact Entails.of_eq h

/-- What a device takes from its neighbours' payments: the place each of its copies lands in. -/
theorem paid : iprop(barPay (F := F) c true ∗ barPay (F := F) c false)
    ⊢ bigSep Finset.univ (fun j : Cp => iprop(free (F := F) (tgt c j.right) j.1 j.dst j.2.2 ∗ reached ER (rCell (tgt c j.right) j) 0)) := by
  have e (b : Bool) : barPay (F := F) c b = bigSep (Finset.univ.filter fun j : Cp => j.right = b)
        (fun j => iprop(free (F := F) (tgt c j.right) j.1 j.dst j.2.2 ∗ reached ER (rCell (tgt c j.right) j) 0)) :=
    bigSep_congr fun j hj => by rw [(Finset.mem_filter.mp hj).2]
  rw [e, e, parted (fun j : Cp => j.right = true),
    show (Finset.univ.filter fun j : Cp => ¬j.right = true) = Finset.univ.filter fun j : Cp => j.right = false from
        Finset.filter_congr fun j _ => by simp]

/-! ## Slot 0 after the store -/

/-- An index of one slot. -/
def ix (a : Fin 64) (b : Fin 2048) : S1x64x2048.Idx := fun
  | 0 => ⟨0, by decide⟩
  | 1 => a
  | 2 => b

theorem org_zero : org c 0 = c := rfl

/-- After a block is stored into slot 0, both its halves hold what belongs there. -/
theorem slot_filled (f : (B w).view.ty.Contents (Elt F)) (p : S1x64x2048.Idx → Elt F .bf16)
    (hp : ∀ a b, p (ix a b) = Y w c a b) :
    ((B w).view.loc (c : Thread nD τ) ↦[((B w).access r0).set]{fullShare} ((B w).access r0).write (Elt F) f p Finset.univ : sProp 𝕄)
      ⊢ bigSep Finset.univ (fun s : Fin 2 => (has Y c w 0 s fullShare : sProp 𝕄)) := by
  have hr (s : Fin 2) (j : S1x64x1024.Idx) :
      (B w).view.read (Elt F) (((B w).access r0).write (Elt F) f p Finset.univ) ((rct 0 s).emb j) = part Y w c 0 s j := by
    have hj0 : (j 0).val < 1 := (j 0).2
    have hj2 : (j 2).val < 1024 := (j 2).2
    have hs := s.2
    have hi : (rct 0 s).emb j = r0.emb (ix (((rct 0 s).emb j) 1) (((rct 0 s).emb j) 2)) := by
      funext a
      apply Fin.ext
      match a with
      | 0 => show 0 + 1 * (j 0).val = 0 + 1 * 0; omega
      | 1 => show 0 + 1 * (j 1).val = 0 + 1 * (0 + 1 * (j 1).val); omega
      | 2 => show 1024 * s.val + 1 * (j 2).val = 0 + 1 * (1024 * s.val + 1 * (j 2).val); omega
    have hc : org c (((rct 0 s).emb j) 0) = c := by
      rw [show ((rct 0 s).emb j) 0 = (0 : Fin 32) from Fin.ext (by show 0 + 1 * (j 0).val = 0; omega)]; rfl
    have h1 : (B w).view.read (Elt F) (((B w).access r0).write (Elt F) f p Finset.univ) ((rct 0 s).emb j)
        = p (ix (((rct 0 s).emb j) 1) (((rct 0 s).emb j) 2)) :=
      (congrArg _ hi).trans (View.read_slice_write_emb (v := (B w).view) (Val := Elt F) r0 f p (Finset.mem_univ _))
    refine h1.trans ((hp _ _).trans ?_)
    show _ = Y w (org c (((rct 0 s).emb j) 0)) _ _
    rw [hc]
  exact Entails.of_eq ((slot_halves c w _).trans ((congrArg₂ (fun A B => (iprop(owns (c : Thread nD τ) (half w 0 0) fullShare A
    ∗ owns (c : Thread nD τ) (half w 0 1) fullShare B) : sProp 𝕄)) (funext (hr 0)) (funext (hr 1))).trans (bigSep_fin_two (fun s : Fin 2 => (has Y c w 0 s fullShare : sProp 𝕄))).symm))

/-! ## The signals and the wait -/

section Rules

variable (K : GSem nD τ sig → ℕ) (I : sProp (MT nD τ sig Unit (Elt F) ℕ UU ℕ)) [BI.Persistent I]
  (hB' : ∀ d : Dev nD, I ⊢ cellInv ER (talk Y) (K (barCell d)) (barCell d))
  {Q : PUnit → sProp (MT nD τ sig Unit (Elt F) ℕ UU ℕ)}

include hB' in
/-- A signal to a neighbour's barrier pays it its share of the slots. -/
theorem signal_wp (d : Dev nD) (b : Bool) (O : CellTallies nD τ sig Unit) (W : Waits sig Unit)
    {k : PUnit → Prog (TpuEff nD τ sig (Elt F) Λ₀ .tc) PUnit} :
    iprop(I ∗ owes (c : Thread nD τ) (O + tallyAt (barCell d) () 1) W ∗ dutyTok ER (barCell d) 0 b ∗ barPay (F := F) d b ∗ reached ER (barCell d) 0)
      ⊢ iprop((owes (c : Thread nD τ) O W -∗ wp frame (wpE (defs₀ (F := F)) 𝒱₀ c none) Set.univ (k ⟨⟩) Q)
        -∗ wp frame (wpE (defs₀ (F := F)) 𝒱₀ c none) Set.univ (.op (.semSignal (Dev.tc d) barS (1#32 : BitVec 32).toInt) k) Q) := by
  rw [show (1#32 : BitVec 32).toInt = ((1 : ℕ) : Int) from rfl]
  iintro ⟨#HI, HO, Ht, Hp, Hr⟩ Hk
  iapply (Rounds.wp_signal 𝒱₀ ER (talk Y) (c : Thread nD τ) none (dst := (d : Thread nD τ)) (sem := barS) (r := 0) (d := b)
      (κ := K (barCell d)) (by rw [duties_bar]; exact Finset.mem_univ _) (amount_bar Y d b) () (O₀ := O + tallyAt (barCell d) () 1) O rfl) $$ [HO Ht Hp Hr]
  · isplitr; · iapply (hB' d); iexact HI
    isplitl [HO]; · iexact HO
    isplitl [Ht]; · iexact Ht
    isplitl [Hp]; · rw [payload_bar]; iexact Hp
    iexact Hr
  iexact Hk

include hB' in
/-- The wait for both neighbours: the places the device's copies land in; then its barrier is closed. -/
theorem barrier_wp (O : CellTallies nD τ sig Unit) (hO : (levAts L lv : sProp 𝕄) ⊢ MayWait (c : Thread nD τ) (.reg barS) () O) (W : Waits sig Unit)
    {k : PUnit → Prog (TpuEff nD τ sig (Elt F) Λ₀ .tc) PUnit} :
    iprop(I ∗ levAts L lv ∗ cred (tallyAt (barCell c) () 2) ∗ owes (c : Thread nD τ) O W ∗ atPos ER (barCell c) 0 ∅ 0)
      ⊢ iprop((∀ W', owes (c : Thread nD τ) O W' -∗ semVal (barCell c) 0 -∗ barPay (F := F) c true -∗ barPay (F := F) c false
          -∗ wp frame (wpE (defs₀ (F := F)) 𝒱₀ c none) Set.univ (k ⟨⟩) Q)
        -∗ wp frame (wpE (defs₀ (F := F)) 𝒱₀ c none) Set.univ (.op (.semWait barS (2#32 : BitVec 32).toInt) k) Q) := by
  rw [show (2#32 : BitVec 32).toInt = ((2 : ℕ) : Int) from rfl]
  iintro ⟨#HI, #Hl, Hc, HO, Hat⟩ Hk
  iapply (Rounds.wp_wait_rest_token 𝒱₀ ER (talk Y) (c : Thread nD τ) none (κ := K (barCell c))
      (wpE_semWait_eq 𝒱₀ (c : Thread nD τ) none Set.univ) (Set.mem_univ _) () (O := O) (W := W) (R := 0) (m := 0) (T := ∅)
      ((Nat.zero_add 2).trans (expect_bar Y c).symm)) $$ [Hc HO Hat]
  · isplitr; · iapply (hB' c); iexact HI
    isplitl [Hc]; · iexact Hc
    isplitl [HO]; · iexact HO
    isplitr; · iapply hO; iexact Hl
    iexact Hat
  iintro ⟨HO, Hat, -, Hp⟩
  imod (Rounds.cell_close ER (talk Y) (Set.mem_univ (K (barCell c))) (fun h => h) (R := 0 + 1) (duties_later Y (barCell c))) $$ [Hat] with Hz
  · isplitr; · iapply (hB' c); iexact HI
    iexact Hat
  ihave Hp' := (Entails.of_eq (rest_bar Y c)) $$ Hp
  icases Hp' with ⟨Hp1, Hp2⟩
  iapply Hk $$ %(_) HO Hz Hp1 Hp2

/-! ## The opening -/

/-- Both buffers of the device, slot 0 at its own block: what the run's first copies need. -/
def gbar : sProp 𝕄 :=
  iprop(atPos ER (barCell c) 0 ∅ 0 ∗ cred (tallyAt (barCell c) () 2) ∗ reached ER (barCell (nx c)) 0 ∗ reached ER (barCell (pv c)) 0
    ∗ dutyTok ER (barCell (pv c)) 0 true ∗ dutyTok ER (barCell (nx c)) 0 false)

/-- What a copy needs besides its source and the place it lands in. -/
def kit (j : Cp) : sProp 𝕄 :=
  iprop(dutyTok ER (rCell (tgt c j.right) j) 0 false ∗ dutyTok ER (sCell c j) 0 false ∗ reached ER (sCell c j) 0 ∗ atPos ER (sCell c j) 0 ∅ 0)

/-- Every copy's needs, and what awaits every landing. -/
def gcp : sProp 𝕄 :=
  iprop(bigSep Finset.univ (fun j => kit (F := F) c j) ∗ bigSep Finset.univ (fun j : Cp => reached ER (rCell c j) 0)
    ∗ bigSep Finset.univ (fun j : Cp => ownR Y c j false))

theorem rooms : iprop(bigSep Finset.univ (fun j => kit (F := F) c j) ∗ barPay (F := F) c true ∗ barPay (F := F) c false)
    ⊢ bigSep Finset.univ (fun j => room (F := F) c j) := by
  have h (j : Cp) : iprop(kit (F := F) c j ∗ free (F := F) (tgt c j.right) j.1 j.dst j.2.2 ∗ reached ER (rCell (tgt c j.right) j) 0)
      ⊢ room (F := F) c j := by
    unfold kit room
    iintro ⟨⟨Ht, Hd, Hr, Ha⟩, Hf, Hr'⟩
    isplitl [Hf]; · iexact Hf
    isplitl [Ht]; · iexact Ht
    isplitl [Hd]; · iexact Hd
    isplitl [Hr']; · iexact Hr'
    isplitl [Hr]; · iexact Hr
    iexact Ha
  iintro ⟨Hk, Hp⟩
  ihave Hp' := (paid c) $$ Hp
  iapply (each (F := F) (fun j (_ : j ∈ Finset.univ) => h j))
  iapply (Entails.of_eq (bigSep_sep' (s := Finset.univ) (Φ := fun j => kit (F := F) c j)
    (Ψ := fun j : Cp => iprop(free (F := F) (tgt c j.right) j.1 j.dst j.2.2 ∗ reached ER (rCell (tgt c j.right) j) 0))).symm)
  isplitl [Hk]; · iexact Hk
  iexact Hp'

/-- What the run owes after the two signals, and before. -/
abbrev owed₀ : CellTallies nD τ sig Unit := owed c script + tallyAt (barCell (nx c)) () 1 + tallyAt (barCell (pv c)) () 1

/-- A whole buffer at given contents. -/
abbrev pt (b : Ref sig .tc) (f : Buf (Elt F) ((c : Thread nD τ).loc b)) : sProp 𝕄 := (((c : Thread nD τ).loc b) ↦{fullShare} f)

/-- The rest of the body, after the opening has read the neighbours' numbers. -/
abbrev tail (v0 : Elt F .i32) (h0 : k0_chk2 v0) (v1 : Elt F .i32) (h1 : k0_chk1 v1) : Prog (TpuEff nD τ sig (Elt F) Λ₀ .tc) PUnit :=
  rest (Memref.whole cc0_stg4_0) (Memref.whole cc0_scratch0) (Memref.isWhole_whole _) (Memref.whole cc0_scratch1) (Memref.isWhole_whole _)
    cc0_scratch2 cc0_scratch3 cc0_scratch4 cc0_scratch5 v0 h0 v1 h1

/-- It is the run between the true neighbours, then the closing. -/
theorem tail_eq (d e : Dev nD) (h0 h1) :
    tail (F := F) (BitVec.ofNat 32 d.val) h0 (BitVec.ofNat 32 e.val) h1
      = run B hB S R d e script (closing (Memref.whole cc0_stg4_0) (Memref.whole cc0_scratch0) (Memref.whole cc0_scratch1)) := by
  unfold tail rest
  rw [dev1_eq, dev2_eq]
  rfl

/-- The opening on the staged windows. -/
abbrev head : Prog (TpuEff nD τ sig (Elt F) Λ₀ .tc) (Σ' (v0 : Elt F .i32) (_ : k0_chk2 v0) (v1 : Elt F .i32), k0_chk1 v1) :=
  k0_part1_skel (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_scratch0) (Memref.isWhole_whole _)
    (Memref.whole cc0_scratch1) (Memref.isWhole_whole _) cc0_scratch2 cc0_scratch3 cc0_scratch4 cc0_scratch5

/-- A load of a whole one-word buffer reads the word it holds. -/
theorem read_number (b : BitVec 32) (n : (cc0_stg0_0 : Ref sig .tc).ty.Contents (Elt F)) (hn : ∀ i, n i = b) :
    ∀ x, ((Memref.whole cc0_stg0_0 : Memref sig .tc .smem S1 .i32).access (Rect.unit (s := S1) ![0] S1.size inb_S1_S1_0)).read (Elt F) n x = b :=
  fun x => hn _

theorem read_number' (b : BitVec 32) (n : (cc0_stg1_0 : Ref sig .tc).ty.Contents (Elt F)) (hn : ∀ i, n i = b) :
    ∀ x, ((Memref.whole cc0_stg1_0 : Memref sig .tc .smem S1 .i32).access (Rect.unit (s := S1) ![0] S1.size inb_S1_S1_0)).read (Elt F) n x = b :=
  fun x => hn _

theorem set_false : (B false).view.set = Finset.univ := by
  show (Memref.whole cc0_scratch0).view.set = Finset.univ
  rw [Memref.view_whole, View.set_whole]
theorem set_true : (B true).view.set = Finset.univ := by
  show (Memref.whole cc0_scratch1).view.set = Finset.univ
  rw [Memref.view_whole, View.set_whole]

/-- Loads of the whole windows read what they hold. -/
theorem read_x (f : (cc0_stg2_0 : Ref sig .tc).ty.Contents (Elt F)) :
    ((Memref.whole cc0_stg2_0 : Memref sig .tc .vmem S2048x64 .f32).access (Rect.unit (s := S2048x64) ![0, 0] S2048x64.size inb_S2048x64_S2048x64_0_0)).read (Elt F) f = f :=
  Memref.readAt_unit_zero (Elt F) cc0_stg2_0 (funext fun a => by fin_cases a <;> rfl) _ f
theorem read_w (f : (cc0_stg3_0 : Ref sig .tc).ty.Contents (Elt F)) :
    ((Memref.whole cc0_stg3_0 : Memref sig .tc .vmem S64x2048 .f32).access (Rect.unit (s := S64x2048) ![0, 0] S64x2048.size inb_S64x2048_S64x2048_0_0)).read (Elt F) f = f :=
  Memref.readAt_unit_zero (Elt F) cc0_stg3_0 (funext fun a => by fin_cases a <;> rfl) _ f

/-- Slot 0 of both buffers, by halves. -/
theorem slots_eq : iprop(bigSep Finset.univ (fun s : Fin 2 => (has Y c false 0 s fullShare : sProp 𝕄))
      ∗ bigSep Finset.univ (fun s : Fin 2 => (has Y c true 0 s fullShare : sProp 𝕄)))
    = bigSep Finset.univ (fun p : Bool × Fin 2 => (has Y c p.1 0 p.2 fullShare : sProp 𝕄)) := by
  have h := bigSep_univ_prod (fun p : Bool × Fin 2 => (has Y c p.1 0 p.2 fullShare : sProp 𝕄))
  rw [show (Finset.univ : Finset Bool) = insert false {true} from by decide, bigSep_insert (by decide), bigSep_singleton] at h
  exact h.symm

/-- A buffer owned whole, as a view of it. -/
theorem whole_false (f : Buf (Elt F) ((c : Thread nD τ).loc cc0_scratch0)) :
    (pt c cc0_scratch0 f : sProp 𝕄) = ((B false).view.loc (c : Thread nD τ) ↦[(B false).view.set]{fullShare} f) := by
  rw [set_false]; rfl
theorem whole_true (f : Buf (Elt F) ((c : Thread nD τ).loc cc0_scratch1)) :
    (pt c cc0_scratch1 f : sProp 𝕄) = ((B true).view.loc (c : Thread nD τ) ↦[(B true).view.set]{fullShare} f) := by
  rw [set_true]; rfl

include hB' in
theorem open_wp (W : Waits sig Unit) (n p : (cc0_stg0_0 : Ref sig .tc).ty.Contents (Elt F))
    (hn : ∀ i, n i = (BitVec.ofNat 32 (nx c).val : BitVec 32)) (hp : ∀ i, p i = (BitVec.ofNat 32 (pv c).val : BitVec 32))
    (X : (cc0_stg2_0 : Ref sig .tc).ty.Contents (Elt F)) (Z : (cc0_stg3_0 : Ref sig .tc).ty.Contents (Elt F))
    (hX : ∀ a b, k0_pay2 X (ix a b) = Y false c a b) (hZ : ∀ a b, k0_pay3 Z (ix a b) = Y true c a b) :
    iprop(I ∗ levAts L lv ∗ gbar (F := F) c ∗ gcp Y c ∗ (∃ f, pt c cc0_scratch0 f) ∗ (∃ f, pt c cc0_scratch1 f)
        ∗ pt c cc0_stg0_0 n ∗ pt c cc0_stg1_0 p ∗ pt c cc0_stg2_0 X ∗ pt c cc0_stg3_0 Z ∗ owes (c : Thread nD τ) (owed₀ c) W)
      ⊢ iprop((∀ W', own' Y c St.first -∗ semVal (barCell c) 0 -∗ pt c cc0_stg0_0 n -∗ pt c cc0_stg1_0 p -∗ pt c cc0_stg2_0 X
          -∗ pt c cc0_stg3_0 Z -∗ owes (c : Thread nD τ) (owed c script) W'
          -∗ wp frame (wpE (defs₀ (F := F)) 𝒱₀ c none) Set.univ
              (run B hB S R (nx c) (pv c) script (closing (Memref.whole cc0_stg4_0) (Memref.whole cc0_scratch0) (Memref.whole cc0_scratch1))) Q)
        -∗ wp frame (wpE (defs₀ (F := F)) 𝒱₀ c none) Set.univ (head >>= fun r => tail r.1 r.2.1 r.2.2.1 r.2.2.2) Q) := by
  unfold head k0_part1_skel
  simp only [semSignalWord, semWaitWord, smemLoad, smemLoadElt, Prog.lift, Prog.bind_op, Prog.bind_ret, Prog.pure_eq_ret, Prog.bind_assoc]
  unfold gbar gcp
  iintro ⟨#HI, #Hl, ⟨Hat, Hc, #Hrn, #Hrp, Htp, Htn⟩, ⟨Hkit, #Hrr, HR⟩, Hb0, Hb1, Hn, Hp, Hx, Hz, HO⟩ Hk
  -- the neighbours' numbers
  iapply (wp_load_rect 𝒱₀ (c : Thread nD τ) none Set.univ (m := Memref.whole cc0_stg0_0)
    (r := Rect.unit (s := S1) ![0] S1.size inb_S1_S1_0) (Finset.subset_univ _)) $$ Hn
  iintro Hn
  rw [read_number _ n hn]
  simp only [wp_assume_of _ _ _ _ (d := k0_chk2.dec _) (chk2_ok (nx c))]
  iapply (wp_load_rect 𝒱₀ (c : Thread nD τ) none Set.univ (m := Memref.whole cc0_stg1_0)
    (r := Rect.unit (s := S1) ![0] S1.size inb_S1_S1_0) (Finset.subset_univ _)) $$ Hp
  iintro Hp
  rw [read_number' _ p hp]
  simp only [wp_assume_of _ _ _ _ (d := k0_chk1.dec _) (chk1_ok (pv c))]
  rw [dev1_eq, dev2_eq]
  -- the slots cut off, paid to the neighbours
  ihave Hb0' := (split_free (F := F) c false) $$ [Hb0]
  · icases Hb0 with ⟨%f, Hb0⟩
    iexists f
    iapply (Entails.of_eq (whole_false c f)); iexact Hb0
  ihave Hb1' := (split_free (F := F) c true) $$ [Hb1]
  · icases Hb1 with ⟨%f, Hb1⟩
    iexists f
    iapply (Entails.of_eq (whole_true c f)); iexact Hb1
  icases Hb0' with ⟨⟨%f0, Hs0⟩, Hf0⟩
  icases Hb1' with ⟨⟨%f1, Hs1⟩, Hf1⟩
  ihave Hf := (Entails.of_eq (frees_eq (F := F) c)) $$ [Hf0 Hf1]
  · isplitl [Hf0] <;> iassumption
  ihave Hpay := (pays (F := F) c) $$ [Hf]
  · isplitl [Hf]; · iexact Hf
    iexact Hrr
  icases Hpay with ⟨Hpp, Hpn⟩
  iapply (signal_wp Y c K I hB' (pv c) true (owed c script + tallyAt (barCell (nx c)) () 1) W) $$ [HO Htp Hpp]
  · isplitr; · iexact HI
    isplitl [HO]; · iexact HO
    isplitl [Htp]; · iexact Htp
    isplitl [Hpp]; · iexact Hpp
    iexact Hrp
  iintro HO
  iapply (signal_wp Y c K I hB' (nx c) false (owed c script) W) $$ [HO Htn Hpn]
  · isplitr; · iexact HI
    isplitl [HO]; · iexact HO
    isplitl [Htn]; · iexact Htn
    isplitl [Hpn]; · iexact Hpn
    iexact Hrn
  iintro HO
  iapply (barrier_wp Y c K I hB' (owed c script) (mayWait_bar c script) W) $$ [Hc HO Hat]
  · isplitr; · iexact HI
    isplitr; · iexact Hl
    isplitl [Hc]; · iexact Hc
    isplitl [HO]; · iexact HO
    iexact Hat
  iintro %W' HO Hz0 Hp1 Hp2
  ihave Hrooms := (rooms (F := F) c) $$ [Hkit Hp1 Hp2]
  · isplitl [Hkit]; · iexact Hkit
    isplitl [Hp1] <;> iassumption
  -- the own blocks, each into slot 0 of its buffer
  iapply (wp_load_rect 𝒱₀ (c : Thread nD τ) none Set.univ (m := Memref.whole cc0_stg2_0)
    (r := Rect.unit (s := S2048x64) ![0, 0] S2048x64.size inb_S2048x64_S2048x64_0_0) (Finset.subset_univ _)) $$ Hx
  iintro Hx
  iapply (wp_load_rect 𝒱₀ (c : Thread nD τ) none Set.univ (m := B false) (r := r0) (Finset.Subset.refl _)) $$ Hs0
  iintro Hs0
  iapply (wp_store 𝒱₀ (c : Thread nD τ) none Set.univ (m := B false) (r := r0) (Mk := Finset.univ) (by rw [View.setOn_univ])) $$ Hs0
  iintro Hs0
  iapply (wp_load_rect 𝒱₀ (c : Thread nD τ) none Set.univ (m := Memref.whole cc0_stg3_0)
    (r := Rect.unit (s := S64x2048) ![0, 0] S64x2048.size inb_S64x2048_S64x2048_0_0) (Finset.subset_univ _)) $$ Hz
  iintro Hz
  iapply (wp_load_rect 𝒱₀ (c : Thread nD τ) none Set.univ (m := B true) (r := r0) (Finset.Subset.refl _)) $$ Hs1
  iintro Hs1
  iapply (wp_store 𝒱₀ (c : Thread nD τ) none Set.univ (m := B true) (r := r0) (Mk := Finset.univ) (by rw [View.setOn_univ])) $$ Hs1
  iintro Hs1
  rw [read_x, read_w]
  rw [tail_eq]
  ihave Hh0 := (slot_filled Y c false f0 _ hX) $$ Hs0
  ihave Hh1 := (slot_filled Y c true f1 _ hZ) $$ Hs1
  iapply Hk $$ %_ [Hh0 Hh1 Hrooms HR] Hz0 Hn Hp Hx Hz HO
  iapply (own_first Y c)
  isplitl [Hh0 Hh1]
  · iapply (Entails.of_eq (slots_eq Y c))
    isplitl [Hh0] <;> iassumption
  isplitl [Hrooms]; · iexact Hrooms
  iexact HR

end Rules

end Cert.KernelIdeal.Ring
-- ==== Proof.Closing.lean ====
/- The closing of a device's run: the product of the two full buffers, block of columns by block of columns. -/
module

public import proofs.«01_k».proof.Proof.Opening

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The result -/

/-- An index of a block of columns of a buffer of slots, at column `b` of the whole. -/
def ix3 (k : Fin 32) (a : Fin 64) (b : Fin 2048) : S32x64x2048.Idx := fun
  | 0 => k
  | 1 => a
  | 2 => b

/-- An index of a block of columns of the result. -/
def ix2 (a : Fin 2048) (b : Fin 512) : S2048x512.Idx := fun
  | 0 => a
  | 1 => b

/-- Block `q` of the columns of a buffer of slots. -/
def cols (V : S32x64x2048.Idx → Elt F .bf16) (q : Fin 4) : S32x64x512.Idx → Elt F .bf16 :=
  fun x => V (ix3 (x 0) (x 1) ⟨512 * q.val + (x 2).val, by have h : (x 2).val < 512 := (x 2).2; have := q.2; omega⟩)

/-- The product of the two full buffers with its negative entries put to zero, block of columns by block of columns. -/
def outv (U V : S32x64x2048.Idx → Elt F .bf16) : S2048x2048.Idx → Elt F .f32 := fun i =>
  k0_pay5 (k0_pay4 U) (cols V ⟨(i 1).val / 512, by have h : (i 1).val < 2048 := (i 1).2; omega⟩)
    (ix2 (i 0) ⟨(i 1).val % 512, Nat.mod_lt _ (by decide)⟩)

/-- What the result's window holds after a block of columns at column `o` is stored. -/
theorem col_write (o : ℕ) (inb : ∀ a, (![0, o] : Fin 2 → ℕ) a + S2048x512.size a ≤ S2048x2048.size a)
    (g : (cc0_stg4_0 : Ref sig .tc).ty.Contents (Elt F)) (p : S2048x512.Idx → Elt F .f32) (i : S2048x2048.Idx) :
    ((Memref.whole cc0_stg4_0 : Memref sig .tc .vmem S2048x2048 .f32).access (Rect.unit (s := S2048x2048) ![0, o] S2048x512.size inb)).write
        (Elt F) g p Finset.univ i
      = if h : o ≤ (i 1).val ∧ (i 1).val < o + 512 then p (ix2 (i 0) ⟨(i 1).val - o, by omega⟩) else g i := by
  set v := (Memref.whole cc0_stg4_0 : Memref sig .tc .vmem S2048x2048 .f32).view with hv
  have hr (f : (cc0_stg4_0 : Ref sig .tc).ty.Contents (Elt F)) : v.read (Elt F) f = f := rfl
  split
  · rename_i h
    have hi : i = (Rect.unit (s := S2048x2048) ![0, o] S2048x512.size inb).emb (ix2 (i 0) ⟨(i 1).val - o, by omega⟩) := by
      funext a
      apply Fin.ext
      match a with
      | 0 => show (i 0).val = 0 + 1 * (i 0).val; omega
      | 1 => show (i 1).val = o + 1 * ((i 1).val - o); omega
    have h1 := View.read_slice_write_emb (v := v) (Val := Elt F) (Rect.unit (s := S2048x2048) ![0, o] S2048x512.size inb) g p
      (Finset.mem_univ (ix2 (i 0) ⟨(i 1).val - o, by omega⟩))
    rw [hr, ← hi] at h1
    exact h1
  · rename_i h
    have h1 := View.read_slice_write_of_not_mem (v := v) (Val := Elt F) (Rect.unit (s := S2048x2048) ![0, o] S2048x512.size inb) g p
      Finset.univ (y := i) (by
        rw [Rect.map_emb_univ, Rect.mem_set_unit]
        intro ha
        have h2 : o ≤ (i 1).val ∧ (i 1).val < o + 512 := ha 1
        exact h h2)
    rw [hr, hr] at h1
    exact h1

/-- The four blocks of columns stored one after another make the result. -/
theorem out_eq (U V : S32x64x2048.Idx → Elt F .bf16) (g : (cc0_stg4_0 : Ref sig .tc).ty.Contents (Elt F))
    (w0 w1 w2 w3 : S32x64x512.Idx → Elt F .bf16) (h0 : w0 = cols V 0) (h1 : w1 = cols V 1) (h2 : w2 = cols V 2) (h3 : w3 = cols V 3) :
    ((Memref.whole cc0_stg4_0 : Memref sig .tc .vmem S2048x2048 .f32).access (Rect.unit (s := S2048x2048) ![0, 1536] S2048x512.size inb_S2048x2048_S2048x512_0_1536)).write (Elt F)
      (((Memref.whole cc0_stg4_0 : Memref sig .tc .vmem S2048x2048 .f32).access (Rect.unit (s := S2048x2048) ![0, 1024] S2048x512.size inb_S2048x2048_S2048x512_0_1024)).write (Elt F)
        (((Memref.whole cc0_stg4_0 : Memref sig .tc .vmem S2048x2048 .f32).access (Rect.unit (s := S2048x2048) ![0, 512] S2048x512.size inb_S2048x2048_S2048x512_0_512)).write (Elt F)
          (((Memref.whole cc0_stg4_0 : Memref sig .tc .vmem S2048x2048 .f32).access (Rect.unit (s := S2048x2048) ![0, 0] S2048x512.size inb_S2048x2048_S2048x512_0_0)).write (Elt F)
            g (k0_pay5 (k0_pay4 U) w0) Finset.univ)
          (k0_pay6 (k0_pay4 U) w1) Finset.univ)
        (k0_pay7 (k0_pay4 U) w2) Finset.univ)
      (k0_pay1 (k0_pay8 (k0_pay4 U) w3) (k0_pay9 (F := F))) Finset.univ = outv U V := by
  subst h0 h1 h2 h3
  funext i
  have hi : (i 1).val < 2048 := (i 1).2
  have e (q : Fin 4) (r : ℕ) (hr : r < 512) (h : (i 1).val = 512 * q.val + r) :
      k0_pay5 (k0_pay4 U) (cols V q) (ix2 (i 0) ⟨r, hr⟩) = outv U V i := by
    unfold outv
    have hq : (⟨(i 1).val / 512, by omega⟩ : Fin 4) = q := Fin.ext (by show (i 1).val / 512 = q.val; omega)
    have hr' : (⟨(i 1).val % 512, Nat.mod_lt _ (by decide)⟩ : Fin 512) = ⟨r, hr⟩ := Fin.ext (by show (i 1).val % 512 = r; omega)
    rw [hq, hr']
  rw [col_write]
  split
  · exact e 3 _ _ (by show _ = 512 * 3 + _; omega)
  rw [col_write]
  split
  · exact e 2 _ _ (by show _ = 512 * 2 + _; omega)
  rw [col_write]
  split
  · exact e 1 _ _ (by show _ = 512 * 1 + _; omega)
  rw [col_write]
  split
  · exact e 0 _ _ (by show _ = 512 * 0 + _; omega)
  · omega

/-! ## The closing -/

variable (c : Dev nD)

/-- A load of a block of columns of the second buffer. -/
theorem read_cols (V : (cc0_scratch1 : Ref sig .tc).ty.Contents (Elt F)) (q : Fin 4) (o : ℕ) (ho : o = 512 * q.val)
    (inb : ∀ a, (![0, 0, o] : Fin 3 → ℕ) a + S32x64x512.size a ≤ S32x64x2048.size a) :
    ((Memref.whole cc0_scratch1 : Memref sig .tc .vmem S32x64x2048 .bf16).access (Rect.unit (s := S32x64x2048) ![0, 0, o] S32x64x512.size inb)).read (Elt F) V
      = cols V q := by
  subst ho
  funext x
  show V ((Rect.unit (s := S32x64x2048) ![0, 0, 512 * q.val] S32x64x512.size inb).emb x) = _
  unfold cols
  congr 1
  funext a
  apply Fin.ext
  match a with
  | 0 => show 0 + 1 * (x 0).val = (x 0).val; omega
  | 1 => show 0 + 1 * (x 1).val = (x 1).val; omega
  | 2 => show 512 * q.val + 1 * (x 2).val = 512 * q.val + (x 2).val; omega

theorem read_all (U : (cc0_scratch0 : Ref sig .tc).ty.Contents (Elt F)) :
    ((Memref.whole cc0_scratch0 : Memref sig .tc .vmem S32x64x2048 .bf16).access (Rect.unit (s := S32x64x2048) ![0, 0, 0] S32x64x2048.size inb_S32x64x2048_S32x64x2048_0_0_0)).read (Elt F) U = U :=
  Memref.readAt_unit_zero (Elt F) cc0_scratch0 (funext fun a => by fin_cases a <;> rfl) _ U

/-- With both buffers at given contents, the closing leaves their product in the result's window. -/
theorem closing_wp {Q : PUnit → sProp (MT nD τ sig Unit (Elt F) ℕ UU ℕ)} (U : (cc0_scratch0 : Ref sig .tc).ty.Contents (Elt F))
    (V : (cc0_scratch1 : Ref sig .tc).ty.Contents (Elt F)) (g : (cc0_stg4_0 : Ref sig .tc).ty.Contents (Elt F)) :
    iprop(pt c cc0_scratch0 U ∗ pt c cc0_scratch1 V ∗ pt c cc0_stg4_0 g)
      ⊢ (iprop((pt c cc0_scratch0 U -∗ pt c cc0_scratch1 V -∗ pt c cc0_stg4_0 (outv U V) -∗ Q ⟨⟩)
        -∗ wp frame (wpE (defs₀ (F := F)) 𝒱₀ c none) Set.univ
            (closing (Memref.whole cc0_stg4_0) (Memref.whole cc0_scratch0) (Memref.whole cc0_scratch1)) Q) : sProp 𝕄) := by
  unfold closing
  simp only [Prog.lift, Prog.bind_op, Prog.bind_ret, Prog.pure_eq_ret, Prog.bind_assoc]
  iintro ⟨HU, HV, Ho⟩ Hk
  iapply (wp_load_rect 𝒱₀ (c : Thread nD τ) none Set.univ (m := Memref.whole cc0_scratch0)
    (r := Rect.unit (s := S32x64x2048) ![0, 0, 0] S32x64x2048.size inb_S32x64x2048_S32x64x2048_0_0_0) (Finset.subset_univ _)) $$ HU
  iintro HU
  iapply (wp_load_rect 𝒱₀ (c : Thread nD τ) none Set.univ (m := Memref.whole cc0_scratch1)
    (r := Rect.unit (s := S32x64x2048) ![0, 0, 0] S32x64x512.size inb_S32x64x2048_S32x64x512_0_0_0) (Finset.subset_univ _)) $$ HV
  iintro HV
  iapply (wp_load_rect 𝒱₀ (c : Thread nD τ) none Set.univ (m := Memref.whole cc0_stg4_0)
    (r := Rect.unit (s := S2048x2048) ![0, 0] S2048x512.size inb_S2048x2048_S2048x512_0_0) (Finset.subset_univ _)) $$ Ho
  iintro Ho
  iapply (wp_store 𝒱₀ (c : Thread nD τ) none Set.univ (m := Memref.whole cc0_stg4_0)
    (r := Rect.unit (s := S2048x2048) ![0, 0] S2048x512.size inb_S2048x2048_S2048x512_0_0) (Mk := Finset.univ) (Finset.subset_univ _)) $$ Ho
  iintro Ho
  iapply (wp_load_rect 𝒱₀ (c : Thread nD τ) none Set.univ (m := Memref.whole cc0_scratch1)
    (r := Rect.unit (s := S32x64x2048) ![0, 0, 512] S32x64x512.size inb_S32x64x2048_S32x64x512_0_0_512) (Finset.subset_univ _)) $$ HV
  iintro HV
  iapply (wp_load_rect 𝒱₀ (c : Thread nD τ) none Set.univ (m := Memref.whole cc0_stg4_0)
    (r := Rect.unit (s := S2048x2048) ![0, 512] S2048x512.size inb_S2048x2048_S2048x512_0_512) (Finset.subset_univ _)) $$ Ho
  iintro Ho
  iapply (wp_store 𝒱₀ (c : Thread nD τ) none Set.univ (m := Memref.whole cc0_stg4_0)
    (r := Rect.unit (s := S2048x2048) ![0, 512] S2048x512.size inb_S2048x2048_S2048x512_0_512) (Mk := Finset.univ) (Finset.subset_univ _)) $$ Ho
  iintro Ho
  iapply (wp_load_rect 𝒱₀ (c : Thread nD τ) none Set.univ (m := Memref.whole cc0_scratch1)
    (r := Rect.unit (s := S32x64x2048) ![0, 0, 1024] S32x64x512.size inb_S32x64x2048_S32x64x512_0_0_1024) (Finset.subset_univ _)) $$ HV
  iintro HV
  iapply (wp_load_rect 𝒱₀ (c : Thread nD τ) none Set.univ (m := Memref.whole cc0_stg4_0)
    (r := Rect.unit (s := S2048x2048) ![0, 1024] S2048x512.size inb_S2048x2048_S2048x512_0_1024) (Finset.subset_univ _)) $$ Ho
  iintro Ho
  iapply (wp_store 𝒱₀ (c : Thread nD τ) none Set.univ (m := Memref.whole cc0_stg4_0)
    (r := Rect.unit (s := S2048x2048) ![0, 1024] S2048x512.size inb_S2048x2048_S2048x512_0_1024) (Mk := Finset.univ) (Finset.subset_univ _)) $$ Ho
  iintro Ho
  iapply (wp_load_rect 𝒱₀ (c : Thread nD τ) none Set.univ (m := Memref.whole cc0_scratch1)
    (r := Rect.unit (s := S32x64x2048) ![0, 0, 1536] S32x64x512.size inb_S32x64x2048_S32x64x512_0_0_1536) (Finset.subset_univ _)) $$ HV
  iintro HV
  iapply (wp_load_rect 𝒱₀ (c : Thread nD τ) none Set.univ (m := Memref.whole cc0_stg4_0)
    (r := Rect.unit (s := S2048x2048) ![0, 1536] S2048x512.size inb_S2048x2048_S2048x512_0_1536) (Finset.subset_univ _)) $$ Ho
  iintro Ho
  iapply (wp_store 𝒱₀ (c : Thread nD τ) none Set.univ (m := Memref.whole cc0_stg4_0)
    (r := Rect.unit (s := S2048x2048) ![0, 1536] S2048x512.size inb_S2048x2048_S2048x512_0_1536) (Mk := Finset.univ) (Finset.subset_univ _)) $$ Ho
  iintro Ho
  rw [wp_ret]
  imodintro
  ihave Ho := (Entails.of_eq (congrArg (fun h => (pt c cc0_stg4_0 h : sProp 𝕄)) (out_eq _ V g _ _ _ _
    (read_cols V 0 0 rfl _) (read_cols V 1 512 rfl _) (read_cols V 2 1024 rfl _) (read_cols V 3 1536 rfl _)))) $$ Ho
  ihave Ho := (Entails.of_eq (congrArg (fun h => (pt c cc0_stg4_0 (outv h V) : sProp 𝕄)) (read_all U))) $$ Ho
  iapply Hk $$ HU HV Ho

end Cert.KernelIdeal.Ring
-- ==== Proof.Body.lean ====
/- A device's whole body: the opening, the run of the ring and the closing, one after another. -/
module

public import proofs.«01_k».proof.Proof.Closing

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (Y : Blocks F) (c : Dev nD)

/-- Every half of every slot, held whole, is the two buffers held whole at their full contents. -/
theorem buffers_full :
    bigSep Finset.univ (fun p : Bool × Fin 32 × Fin 2 => (has Y c p.1 p.2.1 p.2.2 fullShare : sProp 𝕄))
      ⊢ iprop(pt c cc0_scratch0 (full Y false c) ∗ pt c cc0_scratch1 (full Y true c)) := by
  rw [bigSep_univ_prod, show (Finset.univ : Finset Bool) = insert false {true} from by decide, bigSep_insert (by decide), bigSep_singleton]
  have h0 : bigSep Finset.univ (fun p : Fin 32 × Fin 2 => (has Y c false p.1 p.2 fullShare : sProp 𝕄)) ⊢ pt c cc0_scratch0 (full Y false c) := by
    refine (join_full Y c false).trans ?_
    iintro ⟨%f, %hf, H⟩
    have hf' : f = full Y false c := hf
    subst hf'
    rw [whole_false]
    iexact H
  have h1 : bigSep Finset.univ (fun p : Fin 32 × Fin 2 => (has Y c true p.1 p.2 fullShare : sProp 𝕄)) ⊢ pt c cc0_scratch1 (full Y true c) := by
    refine (join_full Y c true).trans ?_
    iintro ⟨%f, %hf, H⟩
    have hf' : f = full Y true c := hf
    subst hf'
    rw [whole_true]
    iexact H
  exact BI.sep_mono h0 h1

/-- The body as the pipeline calls it on the staged windows. -/
abbrev body : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_scratch0) (Memref.isWhole_whole _)
    (Memref.whole cc0_scratch1) (Memref.isWhole_whole _) cc0_scratch2 cc0_scratch3 cc0_scratch4 cc0_scratch5

theorem body_split : body (F := F) = (head >>= fun r => tail r.1 r.2.1 r.2.2.1 r.2.2.2) := body_eq ..

variable (K : GSem nD τ sig → ℕ) (I : sProp (MT nD τ sig Unit (Elt F) ℕ UU ℕ)) [BI.Persistent I]
  (hB' : ∀ d, I ⊢ cellInv ER (talk Y) (K (barCell d)) (barCell d))
  (hS : ∀ d j, I ⊢ cellInv ER (talk Y) (K (sCell d j)) (sCell d j))
  (hR : ∀ d j, I ⊢ cellInv ER (talk Y) (K (rCell d j)) (rCell d j))
  {Q : PUnit → sProp (MT nD τ sig Unit (Elt F) ℕ UU ℕ)}

/-- What a device owns once its body is over, besides its windows: the two buffers, and every counter of its own at zero. -/
def after : sProp 𝕄 :=
  iprop((∃ f, pt c cc0_scratch0 f) ∗ (∃ f, pt c cc0_scratch1 f) ∗ semVal (barCell c) 0
    ∗ bigSep Finset.univ (fun j => semVal (sCell c j) 0) ∗ bigSep Finset.univ (fun j => semVal (rCell c j) 0))

include hB' hS hR in
/-- The body takes the staged blocks to the product of all devices' blocks, brings every counter back to zero and owes nothing more. -/
theorem body_wp (W : Waits sig Unit) (n p : (cc0_stg0_0 : Ref sig .tc).ty.Contents (Elt F))
    (hn : ∀ i, n i = (BitVec.ofNat 32 (nx c).val : BitVec 32)) (hp : ∀ i, p i = (BitVec.ofNat 32 (pv c).val : BitVec 32))
    (X : (cc0_stg2_0 : Ref sig .tc).ty.Contents (Elt F)) (Z : (cc0_stg3_0 : Ref sig .tc).ty.Contents (Elt F))
    (hX : ∀ a b, k0_pay2 X (ix a b) = Y false c a b) (hZ : ∀ a b, k0_pay3 Z (ix a b) = Y true c a b)
    (g : (cc0_stg4_0 : Ref sig .tc).ty.Contents (Elt F)) :
    iprop(I ∗ levAts L lv ∗ gbar (F := F) c ∗ gcp Y c ∗ (∃ f, pt c cc0_scratch0 f) ∗ (∃ f, pt c cc0_scratch1 f)
        ∗ pt c cc0_stg0_0 n ∗ pt c cc0_stg1_0 p ∗ pt c cc0_stg2_0 X ∗ pt c cc0_stg3_0 Z ∗ pt c cc0_stg4_0 g
        ∗ owes (c : Thread nD τ) (owed₀ c) W)
      ⊢ iprop((∀ W', after (F := F) c -∗ pt c cc0_stg0_0 n -∗ pt c cc0_stg1_0 p -∗ pt c cc0_stg2_0 X -∗ pt c cc0_stg3_0 Z
          -∗ pt c cc0_stg4_0 (outv (full Y false c) (full Y true c)) -∗ owes (c : Thread nD τ) 0 W' -∗ Q ⟨⟩)
        -∗ wp frame (wpE (defs₀ (F := F)) 𝒱₀ c none) Set.univ body Q) := by
  rw [body_split]
  iintro ⟨#HI, #Hl, Hb, Hc, H0, H1, Hn, Hp, Hx, Hz, Ho, HO⟩ Hk
  iapply (open_wp Y c K I hB' (Q := Q) W n p hn hp X Z hX hZ) $$ [Hb Hc H0 H1 Hn Hp Hx Hz HO]
  · iframe HI Hl Hb Hc H0 H1 Hn Hp Hx Hz HO
  iintro %W' Hst Hbar Hn Hp Hx Hz HO
  iapply (run_wp Y K I hS hR c (Q := Q) _ script St.first W' script_ok) $$ [Hst HO]
  · iframe HI Hl Hst HO
  iintro %W'' Hst HO
  ihave Hst := (own_last Y c) $$ Hst
  icases Hst with ⟨Hall, Hs, Hr⟩
  ihave Hall := (buffers_full Y c) $$ Hall
  icases Hall with ⟨H0, H1⟩
  iapply (closing_wp c (Q := Q) (full Y false c) (full Y true c) g) $$ [H0 H1 Ho]
  · iframe H0 H1 Ho
  iintro H0 H1 Ho
  iapply Hk $$ %W'' [H0 H1 Hbar Hs Hr] Hn Hp Hx Hz Ho HO
  unfold after
  iframe Hbar Hs Hr
  isplitl [H0]
  · iexists _
    iexact H0
  · iexists _
    iexact H1

end Cert.KernelIdeal.Ring
-- ==== Proof.Host.lean ====
/- What the host code before the kernel computes: the numbers of a device's two neighbours, looked up in two tables. -/
module

public import proofs.«01_k».proof.Proof.Body
public import proofs.«01_k».proof.Proof.Gen.KernelIdeal.Regions

@[expose] public section

noncomputable section

namespace Cert.KernelIdeal.Ring

open Idealize.ShloMosaic Idealize.ShloMosaic.TcCoe
open Idealize.SL Idealize.SL.RA Idealize.SL.BI
open Cert.KernelIdeal.Gen

variable {F : FTy → Type} [FloatOps F]

/-- A device's own number, as the host code computes it. -/
def own (c : Dev nD) : S_.Idx → BitVec 32 :=
  Host.remui (Host.divui (constantI S_ 32 (Dev.word c)) (constantI S_ 32 1#32)) (constantI S_ 32 32#32)

/-- The place a lookup reads, a negative one counted from the end. -/
def spot (v : S_.Idx → BitVec 32) : S1.Idx → BitVec 32 :=
  broadcastInDim S1 ![] bcast_S_S1 (select (cmpi .slt v (constantI S_ 32 0#32)) (addi v (constantI S_ 32 32#32)) v)

/-- A lookup in a table of 32 numbers. -/
def look (T : S32.Idx → BitVec 32) (v : S_.Idx → BitVec 32) : S_.Idx → BitVec 32 :=
  select (Host.reduce IntOp.andi
      (andi (cmpi .sge (spot v) (broadcastInDim S1 ![] bcast_S_S1 (constantI S_ 32 0#32))) (cmpi .sle (spot v) (constantI S1 32 31#32)))
      (constantI S_ 1 1#1) reducesTo_S1_S_d0 h_S_)
    (Host.gather gather_S32_S1_S__n_0_n_n_0_0_1 T (spot v)) (constantI S_ 32 2147483648#32)

/-- The two tables hold every device's neighbours. -/
theorem look_next : ∀ c : Dev nD, ∀ i, look (fun i => lit0 (S32.rowMajor i)) (own c) i = BitVec.ofNat 32 (nx c).val := by
  decide +kernel
theorem look_prev : ∀ c : Dev nD, ∀ i, look (fun i => lit1 (S32.rowMajor i)) (own c) i = BitVec.ofNat 32 (pv c).val := by
  decide +kernel

variable (m : (ℓ : Loc nD τ sig) → Buf (Elt F) ℓ) (c : Dev nD)

theorem own_eq : V1 m c main_v4 = own c := by
  after_results
  rfl

theorem first_table : V1 m c main_c = fun i => lit0 (S32.rowMajor i) := by
  after_results
  rfl

theorem second_table : V1 m c main_c_0 = fun i => lit1 (S32.rowMajor i) := by
  after_results
  rfl

theorem first_look (V : Valuation τ sig (Elt F)) :
    StableHlo.after hostOps0_1 V main_v5 = look (V main_c) (V main_v4) := by
  after_results
  rfl

theorem second_look (V : Valuation τ sig (Elt F)) :
    StableHlo.after hostOps0_3 V main_v7 = look (V main_c_0) (V main_v4) := by
  after_results
  rfl

/-- The number staged for the kernel is the right neighbour's. -/
theorem next_eq (i : S1.Idx) : V5 m c main_v6 i = (BitVec.ofNat 32 (nx c).val : BitVec 32) := by
  rw [V5_of m c main_v6 (by decide), V4_of m c main_v6 (by decide)]
  have h : V3 m c main_v6 = shapeCast S1 (V2 m c main_v5) shapeCasts_S_S1 := by
    after_results
    rfl
  rw [h, show V2 m c main_v5 = _ from first_look (V1 m c), first_table, own_eq]
  exact look_next c _

/-- And the other the left neighbour's. -/
theorem prev_eq (i : S1.Idx) : V5 m c main_v8 i = (BitVec.ofNat 32 (pv c).val : BitVec 32) := by
  have h : V5 m c main_v8 = shapeCast S1 (V4 m c main_v7) shapeCasts_S_S1 := by
    after_results
    rfl
  rw [h, show V4 m c main_v7 = _ from second_look (V3 m c), V3_of m c main_c_0 (by decide), V2_of m c main_c_0 (by decide),
    V3_of m c main_v4 (by decide), V2_of m c main_v4 (by decide), second_table, own_eq]
  exact look_prev c _

end Cert.KernelIdeal.Ring
-- ==== Proof.Stage.lean ====
/- The kernel's one call: what is staged for it, what a device's blocks are, and the call's body. -/
module

public import proofs.«01_k».proof.Proof.Host
public import proofs.«01_k».proof.Proof.Gen.KernelIdeal.Points

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal.Gen

variable {F : FTy → Type} [FloatOps F]

local notation "𝕄" => MT nD τ sig Unit (Elt F) ℕ UU ℕ

variable (m : (ℓ : Loc nD τ sig) → Buf (Elt F) ℓ) (c : Dev nD)

/-! ## What is staged -/

/-- The two neighbours' numbers and the two blocks, as staged from the arrays the host code leaves. -/
def nst : (cc0_stg0_0 : Ref sig .tc).ty.Contents (Elt F) := (win0_0.blk t0_0).view.read (Elt F) (V5 m c main_v6)
def pst : (cc0_stg1_0 : Ref sig .tc).ty.Contents (Elt F) := (win0_1.blk t0_0).view.read (Elt F) (V5 m c main_v8)
def xst : (cc0_stg2_0 : Ref sig .tc).ty.Contents (Elt F) := (win0_2.blk t0_0).view.read (Elt F) (V5 m c main_arg0)
def wst : (cc0_stg3_0 : Ref sig .tc).ty.Contents (Elt F) := (win0_3.blk t0_0).view.read (Elt F) (V5 m c main_arg1)

theorem nst_eq (i : S1.Idx) : nst m c i = (BitVec.ofNat 32 (nx c).val : BitVec 32) := next_eq m c _
theorem pst_eq (i : S1.Idx) : pst m c i = (BitVec.ofNat 32 (pv c).val : BitVec 32) := prev_eq m c _

/-- The staged blocks are the device's arguments. -/
theorem xst_eq : xst m c = m ((c : Thread nD τ).loc main_arg0) := by
  have h : V5 m c main_arg0 = m ((c : Thread nD τ).loc main_arg0) :=
    (V5_of m c main_arg0 (by decide)).trans <| (V4_of m c main_arg0 (by decide)).trans <| (V3_of m c main_arg0 (by decide)).trans <|
      (V2_of m c main_arg0 (by decide)).trans <| (V1_of m c main_arg0 (by decide)).trans rfl
  rw [← h]
  funext i
  show V5 m c main_arg0 _ = V5 m c main_arg0 i
  refine congrArg (V5 m c main_arg0) (funext fun a => Fin.ext ?_)
  show 0 * _ + 1 * (i a).val = (i a).val
  omega
theorem wst_eq : wst m c = m ((c : Thread nD τ).loc main_arg1) := by
  have h : V5 m c main_arg1 = m ((c : Thread nD τ).loc main_arg1) :=
    (V5_of m c main_arg1 (by decide)).trans <| (V4_of m c main_arg1 (by decide)).trans <| (V3_of m c main_arg1 (by decide)).trans <|
      (V2_of m c main_arg1 (by decide)).trans <| (V1_of m c main_arg1 (by decide)).trans rfl
  rw [← h]
  funext i
  show V5 m c main_arg1 _ = V5 m c main_arg1 i
  refine congrArg (V5 m c main_arg1) (funext fun a => Fin.ext ?_)
  show 0 * _ + 1 * (i a).val = (i a).val
  omega

/-- Each device's two blocks, as its kernel casts them. -/
def blocks : Blocks F := fun b d i j => cond b (k0_pay3 (wst m d) (ix i j)) (k0_pay2 (xst m d) (ix i j))

/-! ## The call -/

/-- What a device owns at the call. -/
def enter : sProp 𝕄 :=
  iprop((∃ K, invs (blocks m) K) ∗ levAts L lv ∗ gbar (F := F) c ∗ gcp (blocks m) c)

/-- The result: the product of all devices' blocks, in the order this device got them. -/
def res : (cc0_stg4_0 : Ref sig .tc).ty.Contents (Elt F) := outv (full (blocks m) false c) (full (blocks m) true c)

def dats (_ : Fin 1) (c : Dev nD) : Dat τ (Elt F) Unit ℕ UU ℕ cfg0 c where
  A w := match w with
    | ⟨0, _⟩ => V5 m c main_v6
    | ⟨1, _⟩ => V5 m c main_v8
    | ⟨2, _⟩ => V5 m c main_arg0
    | ⟨3, _⟩ => V5 m c main_arg1
    | ⟨4, _⟩ => V5 m c main_v9
  after w _ := match w with
    | ⟨0, _⟩ => nst m c
    | ⟨1, _⟩ => pst m c
    | ⟨2, _⟩ => xst m c
    | ⟨3, _⟩ => wst m c
    | ⟨4, _⟩ => res m c
  Φ t := match t with
    | ⟨0, _⟩ => iprop(enter m c ∗ (∃ f, pt c cc0_scratch0 f) ∗ (∃ f, pt c cc0_scratch1 f) ∗ ∃ r, prngReg c r)
    | ⟨_ + 1, _⟩ => iprop(after (F := F) c ∗ ∃ r, prngReg c r)
  q _ := fullShare
  owed t := match t with
    | ⟨0, _⟩ => owed₀ c
    | ⟨_ + 1, _⟩ => 0

theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer held at given contents. -/
abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

theorem stg_pt (b : Ref sig .tc) (X : b.ty.Contents (Elt F)) : (stg c b X : sProp 𝕄) ⊢ pt c b X := by
  iintro ⟨%f, %hf, H⟩
  subst hf
  iexact H

theorem pt_stg (b : Ref sig .tc) (X : b.ty.Contents (Elt F)) : (pt c b X : sProp 𝕄) ⊢ stg c b X := by
  iintro H
  iexists X
  isplitr; · ipureintro; rfl
  iexact H

def bodyPre : sProp 𝕄 :=
  iprop((enter m c ∗ (∃ f, pt c cc0_scratch0 f) ∗ (∃ f, pt c cc0_scratch1 f) ∗ ∃ r, prngReg c r)
    ∗ (dats m 0 c).owesAt () t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))

def bodyPost : sProp 𝕄 :=
  iprop((after (F := F) c ∗ ∃ r, prngReg c r) ∗ (dats m 0 c).owesAt () t0_0.succ
    ∗ stg c cc0_stg0_0 (nst m c) ∗ stg c cc0_stg1_0 (pst m c) ∗ stg c cc0_stg2_0 (xst m c) ∗ stg c cc0_stg3_0 (wst m c)
    ∗ stg c cc0_stg4_0 (res m c))

theorem before_0 (d) : (dats m 0 c).before (0 : Fin 5) t0_0 d = nst m c := by
  unfold Dat.before; rw [if_pos (fetch0_0 t0_0)]; rfl
theorem before_1 (d) : (dats m 0 c).before (1 : Fin 5) t0_0 d = pst m c := by
  unfold Dat.before; rw [if_pos (fetch0_1 t0_0)]; rfl
theorem before_2 (d) : (dats m 0 c).before (2 : Fin 5) t0_0 d = xst m c := by
  unfold Dat.before; rw [if_pos (fetch0_2 t0_0)]; rfl
theorem before_3 (d) : (dats m 0 c).before (3 : Fin 5) t0_0 d = wst m c := by
  unfold Dat.before; rw [if_pos (fetch0_3 t0_0)]; rfl

/-- What a device owes, kept within the call's record of waits. -/
theorem owesAt_intro (t : Fin (cfg0.N + 1)) (O : CellTallies nD τ sig Unit) (h0 : (dats m 0 c).owed t = O) (W : Waits sig Unit) :
    (owes (c : Thread nD τ) O W : sProp 𝕄) ⊢ (dats m 0 c).owesAt () t := by
  unfold Dat.owesAt Pipeline.owesWithin Dat.bound
  rw [h0]
  iintro HO
  iexists W
  isplitr; · ipureintro; exact fun _ _ => Or.inl trivial
  iexact HO

theorem owesAt_elim (t : Fin (cfg0.N + 1)) (O : CellTallies nD τ sig Unit) (h0 : (dats m 0 c).owed t = O) :
    ((dats m 0 c).owesAt () t : sProp 𝕄) ⊢ iprop(∃ W, owes (c : Thread nD τ) O W) := by
  unfold Dat.owesAt Pipeline.owesWithin
  rw [h0]
  iintro ⟨%W, -, HO⟩
  iexists W
  iexact HO

theorem owed_first : (dats m 0 c).owed t0_0.castSucc = owed₀ c := rfl
theorem owed_end : (dats m 0 c).owed t0_0.succ = 0 := rfl
theorem blocks_x (a : Fin 64) (b : Fin 2048) : k0_pay2 (xst m c) (ix a b) = blocks m false c a b := by unfold blocks; rfl
theorem blocks_w (a : Fin 64) (b : Fin 2048) : k0_pay3 (wst m c) (ix a b) = blocks m true c a b := by unfold blocks; rfl

end Cert.KernelIdeal.Ring
-- ==== Proof.Call.lean ====
/- The kernel's one call: its body, from what the call hands it to what the call expects back. -/
module

public import proofs.«01_k».proof.Proof.Stage

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal.Gen

variable {F : FTy → Type} [FloatOps F]

local notation "𝕄" => MT nD τ sig Unit (Elt F) ℕ UU ℕ

variable (m : (ℓ : Loc nD τ sig) → Buf (Elt F) ℓ) (c : Dev nD)

/-- The windows at given contents, beside what the device owns and owes. -/
def windows (n : (cc0_stg0_0 : Ref sig .tc).ty.Contents (Elt F)) (p : (cc0_stg1_0 : Ref sig .tc).ty.Contents (Elt F))
    (X : (cc0_stg2_0 : Ref sig .tc).ty.Contents (Elt F)) (Z : (cc0_stg3_0 : Ref sig .tc).ty.Contents (Elt F))
    (g : (cc0_stg4_0 : Ref sig .tc).ty.Contents (Elt F)) : sProp 𝕄 :=
  iprop(pt c cc0_stg0_0 n ∗ pt c cc0_stg1_0 p ∗ pt c cc0_stg2_0 X ∗ pt c cc0_stg3_0 Z ∗ pt c cc0_stg4_0 g)

/-- The body on the staged blocks. -/
theorem body_run (W : Waits sig Unit) (g : (cc0_stg4_0 : Ref sig .tc).ty.Contents (Elt F)) {Q : PUnit → sProp 𝕄} :
    iprop(enter m c ∗ (∃ f, pt c cc0_scratch0 f) ∗ (∃ f, pt c cc0_scratch1 f) ∗ windows c (nst m c) (pst m c) (xst m c) (wst m c) g
        ∗ owes (c : Thread nD τ) (owed₀ c) W)
      ⊢ iprop((∀ W', after (F := F) c -∗ windows c (nst m c) (pst m c) (xst m c) (wst m c) (res m c) -∗ owes (c : Thread nD τ) 0 W' -∗ Q ⟨⟩)
        -∗ wp frame (wpE (defs₀ (F := F)) 𝒱₀ c none) Set.univ body Q) := by
  unfold enter windows res
  iintro ⟨⟨⟨%K, #HI⟩, #Hl, Hb, Hg⟩, H0, H1, ⟨Hn, Hp, Hx, Hw, Ho⟩, HO⟩ Hk
  iapply (body_wp (blocks m) c K (invs (blocks m) K) (inv_bar (blocks m) K) (inv_s (blocks m) K) (inv_r (blocks m) K)
    (Q := Q) W (nst m c) (pst m c) (nst_eq m c) (pst_eq m c) (xst m c) (wst m c) (blocks_x m c) (blocks_w m c) g)
    $$ [Hb Hg H0 H1 Hn Hp Hx Hw Ho HO]
  · iframe HI Hl Hb Hg H0 H1 Hn Hp Hx Hw Ho HO
  iintro %W' Ha Hn Hp Hx Hw Ho HO
  iapply Hk $$ %W' Ha [Hn Hp Hx Hw Ho] HO
  iframe Hn Hp Hx Hw Ho

theorem sound : bodyPre m c ⊢ wp frame (wpE (defs₀ (F := F)) 𝒱₀ c none) Set.univ body (fun _ => bodyPost m c) := by
  unfold bodyPre
  iintro ⟨⟨He, H0, H1, Hr⟩, HO, ⟨%d0, Hn⟩, ⟨%d1, Hp⟩, ⟨%d2, Hx⟩, ⟨%d3, Hw⟩, ⟨%d4, Ho⟩⟩
  ihave HO := (owesAt_elim m c _ (owed₀ c) (owed_first m c)) $$ HO
  icases HO with ⟨%W, HO⟩
  rw [before_0, before_1, before_2, before_3]
  generalize (dats m 0 c).before (4 : Fin 5) t0_0 d4 = g
  ihave Hn := (stg_pt c cc0_stg0_0 (nst m c)) $$ Hn
  ihave Hp := (stg_pt c cc0_stg1_0 (pst m c)) $$ Hp
  ihave Hx := (stg_pt c cc0_stg2_0 (xst m c)) $$ Hx
  ihave Hw := (stg_pt c cc0_stg3_0 (wst m c)) $$ Hw
  ihave Ho := (stg_pt c cc0_stg4_0 g) $$ Ho
  iapply (body_run m c W g (Q := fun _ => bodyPost m c)) $$ [He H0 H1 Hn Hp Hx Hw Ho HO]
  · unfold windows
    iframe He H0 H1 Hn Hp Hx Hw Ho HO
  iintro %W' Ha Hwin HO
  unfold windows
  icases Hwin with ⟨Hn, Hp, Hx, Hw, Ho⟩
  ihave Hn := (pt_stg c cc0_stg0_0 (nst m c)) $$ Hn
  ihave Hp := (pt_stg c cc0_stg1_0 (pst m c)) $$ Hp
  ihave Hx := (pt_stg c cc0_stg2_0 (xst m c)) $$ Hx
  ihave Hw := (pt_stg c cc0_stg3_0 (wst m c)) $$ Hw
  ihave Ho := (pt_stg c cc0_stg4_0 (res m c)) $$ Ho
  ihave HO := (owesAt_intro m c t0_0.succ 0 (owed_end m c) W') $$ HO
  unfold bodyPost
  isplitl [Ha Hr]
  · isplitl [Ha] <;> iassumption
  isplitl [HO]; · iexact HO
  isplitl [Hn]; · iexact Hn
  isplitl [Hp]; · iexact Hp
  isplitl [Hx]; · iexact Hx
  isplitl [Hw]; · iexact Hw
  iexact Ho

/-- The call's program is the body on the staged windows. -/
theorem row_eq : defs₀ (F := F) .tc cfg0.body (cfg0.bodyArgs t0_0 (cfg0.slots t0_0)) = body := by
  show bodyAt0 (F := F) t0_0 = body
  unfold bodyAt0 body
  congr 1

set_option maxRecDepth 40000 in
theorem body_obligation : BodyObligation (dats m 0 c) (defs₀ (F := F)) 𝒱₀ () Set.univ := fun t => by
  rw [fin_N0 t]
  rw [bigSep_W0, bigSep_W0]
  simp only [owns_whole_eq]
  rw [row_eq]
  exact sound m c

end Cert.KernelIdeal.Ring
-- ==== Proof.Region.lean ====
/- The kernel's one call among @main's items: what enters it and what leaves it. -/
module

public import proofs.«01_k».proof.Proof.Call

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal.Gen

variable {F : FTy → Type} [FloatOps F]

local notation "𝕄" => MT nD τ sig Unit (Elt F) ℕ UU ℕ

variable (m : (ℓ : Loc nD τ sig) → Buf (Elt F) ℓ) (c : Dev nD)

/-! ## The call's own semaphores -/

/-- The semaphores of the copies. -/
def osem (p : Bool × Cp) : SemLoc sig := csem (some p)

theorem osem_stage (p : Bool × Cp) (w : Fin 5) (s : Fin (spec0 w).nbuf) : osem p ≠ .dma ((spec0 w).sem s) := fun h => by
  have h' : (dsem p).val = ((spec0 w).sem s).val := congrArg Fin.val (SemLoc.dma.inj h)
  have h5 : ∀ (w : Fin 5) (s : Fin (spec0 w).nbuf), ((spec0 w).sem s).val < 5 := by decide
  have := h5 w s
  rw [dsem_val] at h'
  omega

theorem osem_facts : Pipeline.OwnSemFacts (pcfgs (F := F) 0).spec osem where
  isScoped := by decide +kernel
  inj := fun p q h => Option.some.inj (csem_inj h)
  disj := osem_stage

/-- A family over all copies' two semaphores. -/
theorem two_kinds (Φ : Bool × Cp → sProp 𝕄) : bigSep Finset.univ Φ
    = iprop(bigSep Finset.univ (fun j => Φ (false, j)) ∗ bigSep Finset.univ (fun j => Φ (true, j))) := by
  rw [bigSep_univ_prod, show (Finset.univ : Finset Bool) = insert false {true} from by decide, bigSep_insert (by decide), bigSep_singleton]
  rfl

theorem own_sems : (Pipeline.ownSems0 osem c : sProp 𝕄)
    = iprop(bigSep Finset.univ (fun j => semVal (sCell c j) 0) ∗ bigSep Finset.univ (fun j => semVal (rCell c j) 0)) :=
  two_kinds (fun p => semVal ((c : Thread nD τ), osem p) 0)

/-! ## What enters and what leaves -/

/-- What the launch keeps for a device: its semaphores' records still unopened. -/
def kept : sProp 𝕄 :=
  iprop((∃ K, invs (blocks m) K) ∗ gbar (F := F) c
    ∗ bigSep Finset.univ (fun p => openTok ER ((c : Thread nD τ), osem p))
    ∗ bigSep Finset.univ (fun j : Cp => iprop(dutyTok ER (rCell (tgt c j.right) j) 0 false ∗ dutyTok ER (sCell c j) 0 false))
    ∗ bigSep Finset.univ (fun j : Cp => cred (tallyAt (rCell c j) () N)))

/-- One semaphore's record opened. -/
theorem opened (K : GSem nD τ sig → ℕ) (p : Bool × Cp) :
    iprop(invs (blocks m) K ∗ openTok ER ((c : Thread nD τ), osem p) ∗ semVal ((c : Thread nD τ), osem p) 0)
      ⊢ (|={Set.univ}=> iprop(atPos ER ((c : Thread nD τ), osem p) 0 ∅ 0 ∗ reached ER ((c : Thread nD τ), osem p) 0) : sProp 𝕄) :=
  (BI.sep_mono (inv_at (blocks m) K c (some p)) (BI.Entails.refl _)).trans
    (Rounds.cell_open ER (talk (blocks m)) (g := ((c : Thread nD τ), osem p)) (Set.mem_univ _))

/-- All of them. -/
theorem all_opened (K : GSem nD τ sig → ℕ) :
    iprop(invs (blocks m) K ∗ bigSep Finset.univ (fun p => openTok ER ((c : Thread nD τ), osem p)) ∗ Pipeline.ownSems0 osem c)
      ⊢ (|={Set.univ}=> bigSep Finset.univ (fun p => iprop(atPos ER ((c : Thread nD τ), osem p) 0 ∅ 0
          ∗ reached ER ((c : Thread nD τ), osem p) 0)) : sProp 𝕄) := by
  unfold Pipeline.ownSems0
  rw [← bigSep_sep']
  exact (bigSep_with_persistent (fun p _ => opened m c K p)).trans (bigSep_fupd _ _)

/-- Opening them makes what the call needs. -/
theorem hopen : iprop(kept m c ∗ Pipeline.ownSems0 osem c ∗ levAts L lv) ⊢ (|={Set.univ}=> enter m c : sProp 𝕄) := by
  unfold kept enter gcp
  iintro ⟨⟨⟨%K, #HI⟩, Hb, Ho, Ht, Hc⟩, Hs, #Hl⟩
  imod (all_opened m c K) $$ [Ho Hs] with Hp
  · isplitr; · iexact HI
    isplitl [Ho] <;> iassumption
  ihave Hp := (Entails.of_eq (two_kinds _)) $$ Hp
  icases Hp with ⟨HS, HR⟩
  ihave HR := (Entails.of_eq (bigSep_sep' _ _ _)) $$ HR
  icases HR with ⟨HRa, HRr⟩
  imodintro
  isplitr
  · iexists K; iexact HI
  isplitr; · iexact Hl
  isplitl [Hb]; · iexact Hb
  isplitl [HS Ht]
  · have h (j : Cp) : iprop((dutyTok ER (rCell (tgt c j.right) j) 0 false ∗ dutyTok ER (sCell c j) 0 false)
        ∗ atPos ER ((c : Thread nD τ), osem (false, j)) 0 ∅ 0 ∗ reached ER ((c : Thread nD τ), osem (false, j)) 0) ⊢ kit (F := F) c j := by
      unfold kit
      iintro ⟨⟨H1, H2⟩, H3, H4⟩
      isplitl [H1]; · iexact H1
      isplitl [H2]; · iexact H2
      isplitl [H4]; · iexact H4
      iexact H3
    iapply (each (F := F) (fun j (_ : j ∈ Finset.univ) => h j))
    iapply (Entails.of_eq (bigSep_sep' _ _ _).symm)
    isplitl [Ht]; · iexact Ht
    iexact HS
  isplitl [HRr]; · iexact HRr
  · have h (j : Cp) : iprop(atPos ER ((c : Thread nD τ), osem (true, j)) 0 ∅ 0 ∗ cred (tallyAt (rCell c j) () N))
        ⊢ ownR (blocks m) c j false := BI.Entails.refl _
    iapply (each (F := F) (fun j (_ : j ∈ Finset.univ) => h j))
    iapply (Entails.of_eq (bigSep_sep' _ _ _).symm)
    isplitl [HRa]; · iexact HRa
    iexact Hc

theorem hin : iprop(Pipeline.scopedRest spec0 c ∗ (∃ r, prngReg c r) ∗ StableHlo.held (c.tc : Thread nD τ) ∅ (V5 m c) ∗ enter m c)
    ⊢ (dats m 0 c).Φ 0 := by
  rw [scopedRest0_eq]
  show _ ⊢ iprop(enter m c ∗ (∃ f, pt c cc0_scratch0 f) ∗ (∃ f, pt c cc0_scratch1 f) ∗ ∃ r, prngReg c r)
  iintro ⟨⟨H0, H1⟩, Hr, -, He⟩
  isplitl [He]; · iexact He
  isplitl [H0]; · iexact H0
  isplitl [H1]; · iexact H1
  iexact Hr

theorem hout (W : Valuation τ sig (Elt F)) : (dats m 0 c).Φ (Fin.last cfg0.N)
    ⊢ iprop(Pipeline.scopedRest spec0 c ∗ (∃ r, prngReg c r) ∗ StableHlo.held (c.tc : Thread nD τ) ∅ W ∗ Pipeline.ownSems0 osem c
        ∗ semVal (barCell c) 0) := by
  rw [scopedRest0_eq, own_sems]
  show iprop(after (F := F) c ∗ ∃ r, prngReg c r) ⊢ _
  unfold after StableHlo.held
  rw [BI.bigSep_empty]
  iintro ⟨⟨H0, H1, Hb, Hs, Hr⟩, Hp⟩
  isplitl [H0 H1]
  · isplitl [H0]; · iexact H0
    iexact H1
  isplitl [Hp]; · iexact Hp
  isplitr; · iempintro
  isplitl [Hs Hr]
  · isplitl [Hs] <;> iassumption
  iexact Hb

/-! ## The arrays around it -/

/-- The arrays the call leaves. -/
def outs : Outs (F := F) := fun _ r c =>
  Function.update (V5 m c) (Proc.devRef .tc main_v9) ((dats m 0 c).arrAt (4 : Fin 5) cfg0.N) (Proc.devRef .tc r)

theorem outs_v9 : V6 m (outs m) c main_v9 = (dats m 0 c).arrAt (4 : Fin 5) cfg0.N := by
  unfold V6 outs
  rw [Function.update_self, Function.update_self]

theorem arr_before (w : Fin 5) : (dats m 0 c).arrAt w 0 = V5 m c (Proc.devRef .tc (Pipeline.arrRef spec0 w)) := by
  fin_cases w <;> rfl

theorem arr_after (w : Fin 5) : (dats m 0 c).arrAt w cfg0.N = V6 m (outs m) c (Proc.devRef .tc (Pipeline.arrRef spec0 w)) := by
  match w with
  | 0 => exact ((dats m 0 c).arrAt_in (0 : Fin 5) rfl _).trans (V6_of m (outs m) c main_v6 (by decide)).symm
  | 1 => exact ((dats m 0 c).arrAt_in (1 : Fin 5) rfl _).trans (V6_of m (outs m) c main_v8 (by decide)).symm
  | 2 => exact ((dats m 0 c).arrAt_in (2 : Fin 5) rfl _).trans (V6_of m (outs m) c main_arg0 (by decide)).symm
  | 3 => exact ((dats m 0 c).arrAt_in (3 : Fin 5) rfl _).trans (V6_of m (outs m) c main_arg1 (by decide)).symm
  | 4 => exact (outs_v9 m c).symm

/-- The unscoped buffers that are no window's array. -/
abbrev others : Finset (DevRef τ sig) := Pipeline.ucRefs τ sig \ Pipeline.arrRefs (τ := τ) spec0

theorem others_same (b : DevRef τ sig) (h : b ∈ others \ ∅) : V6 m (outs m) c b = V5 m c b := by
  rw [Finset.sdiff_empty] at h
  unfold V6
  refine Function.update_of_ne (fun e => (Finset.mem_sdiff.mp h).2 ?_) _ _
  rw [e]
  exact Finset.mem_map.mpr ⟨main_v9, Finset.mem_image.mpr ⟨(4 : Fin 5), Finset.mem_univ _, rfl⟩, rfl⟩

theorem share_eq (w : Fin cfg0.W) : (dats m 0 c).share w = fullShare := by unfold Dat.share; split <;> rfl

/-- Owing anything is owing on a cell of a level above the staging cells'. -/
theorem owed_level (t : Fin (cfg0.N + 1)) (g : GSem nD τ sig) (i : Unit) (h : 0 < (dats m 0 c).owed t g i) :
    i ∈ L g ∧ 0 < lv g i := by
  have h₀ : (dats m 0 c).owed t = owed₀ c ∨ (dats m 0 c).owed t = 0 := by
    obtain ⟨t, ht⟩ := t
    cases t
    · exact Or.inl rfl
    · exact Or.inr rfl
  have all : ∀ l : List Act, starts (fun _ => true) l = true := by
    intro l
    induction l with
    | nil => rfl
    | cons a l ih => cases a <;> exact ih
  have bar (d : Dev nD) (h' : 0 < (tallyAt (barCell d) () 1 : CellTallies nD τ sig Unit) g i) : i ∈ L g ∧ 0 < lv g i := by
    rw [tallyAt_apply] at h'
    split at h'
    · next e =>
      rw [e.1, L_tc, lv_bar]
      exact ⟨Finset.mem_singleton_self _, Nat.one_pos⟩
    · exact absurd h' (Nat.lt_irrefl 0)
  rcases h₀ with e | e <;> rw [e] at h
  · have h1 : 0 < owed c script g i + (tallyAt (barCell (nx c)) () 1 : CellTallies nD τ sig Unit) g i
        + (tallyAt (barCell (pv c)) () 1 : CellTallies nD τ sig Unit) g i := h
    rcases Nat.add_pos_iff_pos_or_pos.mp h1 with h1 | h1
    · rcases Nat.add_pos_iff_pos_or_pos.mp h1 with h1 | h1
      · obtain ⟨j, -, rfl⟩ := owed_pos c _ script (all _) g i h1
        rw [L_tc, lv_r]
        exact ⟨Finset.mem_singleton_self _, by omega⟩
      · exact bar _ h1
    · exact bar _ h1
  · exact absurd h (Nat.lt_irrefl 0)

/-- A staging semaphore is none of the protocol's. -/
theorem lv_stage (w : Fin 5) (s : Fin (spec0 w).nbuf) (u : Unit) : lv ((c : Thread nD τ), .dma ((spec0 w).sem s)) u = 0 := by
  have h : what (.dma ((spec0 w).sem s)) = none := by
    cases e : what (.dma ((spec0 w).sem s)) with
    | none => rfl
    | some p =>
      have := (Function.partialInv_of_injective csem_inj p _).mp e
      cases p with
      | none => exact absurd this (fun h => by cases h)
      | some p => exact absurd this (osem_stage p w s)
  dsimp only [lv]
  rw [h]

set_option backward.isDefEq.respectTransparency.types false in
/-- The call, between what enters it and what leaves it. -/
def region : Pipeline.RegionSeg (pcfgs (F := F)) adm (dats m) () defs₀ 𝒱₀ L lv 0 :=
  Pipeline.RegionSeg.ofTalk (pcfgs (F := F)) adm (dats m) () defs₀ 𝒱₀ L lv 0 osem osem_facts
    ∅ others (Finset.empty_subset _) launch0.toP rfl (fun c => (body_obligation m c).loose)
    (fun _ => 0) owed₀ (fun c => (zero_add _).symm) (fun _ => rfl) (fun _ => rfl) (share_eq m)
    (V5 m) (V6 m (outs m)) (others_same m)
    (kept m) (fun c => semVal (barCell c) 0) (enter m) (fun c => semVal (barCell c) 0) (hopen m) (hin m) (fun c => hout m c _)
    (fun c => by iintro H; imodintro; iexact H)
    (fun _ => 0)
    ⟨fun c w s => by rw [L_tc]; exact Finset.mem_singleton_self _, fun c w s => le_of_eq (lv_stage c w s ()), owed_level m⟩
    (fun _ => iprop(emp))
    (arr_before m) (arr_after m)

theorem arrays_sub : Pipeline.arrRefs (τ := τ) spec0 ⊆ Pipeline.ucRefs τ sig :=
  Pipeline.arrRefs_sub_ucRefs spec0 (by decide)

theorem region_pre : iprop(StableHlo.held (c : Thread nD τ) (Pipeline.ucRefs τ sig) (V5 m c)
      ∗ (kept m c ∗ (∃ r, prngReg c r) ∗ ∃ W, owes (c : Thread nD τ) (owed₀ c) W)) ⊢ (region m).pre c := by
  show _ ⊢ iprop(StableHlo.held (c.tc : Thread nD τ) (Pipeline.arrRefs (τ := τ) spec0) (V5 m c) ∗ (∃ r, prngReg c r)
    ∗ (StableHlo.held (c.tc : Thread nD τ) others (V5 m c) ∗ emp) ∗ kept m c ∗ ∃ Wd, owes (c : Thread nD τ) (0 + owed₀ c) Wd)
  rw [StableHlo.held_sub_split (c : Thread nD τ) arrays_sub (V5 m c), zero_add]
  iintro ⟨⟨Ha, Ho⟩, Hk, Hr, HO⟩
  isplitl [Ha]; · iexact Ha
  isplitl [Hr]; · iexact Hr
  isplitl [Ho]
  · isplitl [Ho]; · iexact Ho
    iempintro
  isplitl [Hk]; · iexact Hk
  iexact HO

theorem region_post : (region m).post c ⊢ iprop(StableHlo.held (c : Thread nD τ) (Pipeline.ucRefs τ sig) (V6 m (outs m) c)
      ∗ (semVal (barCell c) 0 ∗ ∃ W, owes (c : Thread nD τ) (0 : CellTallies nD τ sig Unit) W)) := by
  show iprop(StableHlo.held (c.tc : Thread nD τ) (Pipeline.arrRefs (τ := τ) spec0) (V6 m (outs m) c) ∗ (∃ r, prngReg c r)
    ∗ (StableHlo.held (c.tc : Thread nD τ) others (V6 m (outs m) c) ∗ emp) ∗ semVal (barCell c) 0
    ∗ ∃ Wd, owes (c : Thread nD τ) (0 : CellTallies nD τ sig Unit) Wd) ⊢ _
  rw [StableHlo.held_sub_split (c : Thread nD τ) arrays_sub (V6 m (outs m) c)]
  iintro ⟨Ha, -, ⟨Ho, -⟩, Hb, HO⟩
  isplitl [Ha Ho]
  · isplitl [Ha] <;> iassumption
  isplitl [Hb]; · iexact Hb
  iexact HO

end Cert.KernelIdeal.Ring
-- ==== Proof.Grants.lean ====
/- The launch: every semaphore's record made, and the rights to pay handed to the devices that pay. -/
module

public import proofs.«01_k».proof.Proof.Region

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## What the devices owe at the launch -/

/-- The copies a list of steps starts. -/
def started : List Act → List Cp
  | [] => []
  | .start j :: l => j :: started l
  | .recv _ :: l => started l
  | .sent _ :: l => started l

theorem owed_started (d : Dev nD) (l : List Act) :
    owed d l = ((started l).map fun j => (tallyAt (rCell (tgt d j.right) j) () N : CellTallies nD τ sig Unit)).sum := by
  induction l with
  | nil => rfl
  | cons a l ih =>
    cases a with
    | start j =>
      show owed d l + _ = _
      rw [ih]
      show _ = List.sum (_ :: _)
      rw [List.sum_cons, add_comm]
    | recv j => exact ih
    | sent j => exact ih

theorem started_nodup : (started script).Nodup := by decide +kernel
theorem started_all : ∀ j : Cp, j ∈ started script := by decide +kernel

/-- Each copy is started once. -/
theorem owed_script (d : Dev nD) :
    owed d script = ∑ j : Cp, (tallyAt (rCell (tgt d j.right) j) () N : CellTallies nD τ sig Unit) := by
  rw [owed_started, ← List.sum_toFinset _ started_nodup]
  refine Finset.sum_congr (Finset.ext fun j => ?_) (fun _ _ => rfl)
  simp [started_all j]

/-- What a device may await from the start: its two neighbours' signals and every landing. -/
theorem credits (c : Dev nD) : (Pipeline.launchCred owed₀ c : sProp 𝕄)
    ⊢ iprop(cred (tallyAt (barCell c) () 2) ∗ bigSep Finset.univ (fun j : Cp => cred (tallyAt (rCell c j) () N))) := by
  have e : (owed₀ : Dev nD → CellTallies nD τ sig Unit) = fun d => ((∑ j : Cp, tallyAt (rCell (tgt d j.right) j) () N)
      + tallyAt (barCell (nx d)) () 1) + tallyAt (barCell (pv d)) () 1 := funext fun d => by rw [← owed_script]
  rw [e, Pipeline.launchCred_add, Pipeline.launchCred_add,
    Pipeline.launchCred_sum Finset.univ (fun (j : Cp) d => tallyAt (rCell (tgt d j.right) j) () N)]
  have hj (j : Cp) : (Pipeline.launchCred (fun d => tallyAt (rCell (tgt d j.right) j) () N) c : sProp 𝕄)
      ⊢ cred (tallyAt (rCell c j) () N) :=
    Pipeline.launchCred_tallyAt (.dma (entry (R j.1) j.dst j.2.2)) (fun d => tgt d j.right) (fun d => tgt d (!j.right))
      (fun d => tgt_tgt' d _) (fun d => tgt_tgt d _) () N c
  have hn : (Pipeline.launchCred (fun d => tallyAt (barCell (nx d)) () 1) c : sProp 𝕄) ⊢ cred (tallyAt (barCell c) () 1) :=
    Pipeline.launchCred_tallyAt (.reg barS) nx pv nx_pv pv_nx () 1 c
  have hp : (Pipeline.launchCred (fun d => tallyAt (barCell (pv d)) () 1) c : sProp 𝕄) ⊢ cred (tallyAt (barCell c) () 1) :=
    Pipeline.launchCred_tallyAt (.reg barS) pv nx pv_nx nx_pv () 1 c
  iintro ⟨⟨Hj, Hn⟩, Hp⟩
  ihave Hn := hn $$ Hn
  ihave Hp := hp $$ Hp
  isplitl [Hn Hp]
  · rw [← tallyAt_add (barCell c) () 1 1]
    iapply (cred_add _ _).2
    isplitl [Hn] <;> iassumption
  · iapply (each (F := F) (fun j (_ : j ∈ Finset.univ) => hj j)) $$ Hj

/-! ## The cells and the rights to pay them -/

def barEmb : Dev nD ↪ GSem nD τ sig := ⟨fun c => barCell c, fun _ _ h => congrArg (fun g : GSem nD τ sig => g.1.1) h⟩
def cpEmb : Dev nD × (Bool × Cp) ↪ GSem nD τ sig :=
  ⟨fun q => ((q.1 : Thread nD τ), osem q.2), fun _ _ h =>
    Prod.ext (congrArg (fun g : GSem nD τ sig => g.1.1) h) (Option.some.inj (csem_inj (congrArg Prod.snd h)))⟩

abbrev barCells : Finset (GSem nD τ sig) := Finset.univ.map barEmb
abbrev cpCells : Finset (GSem nD τ sig) := Finset.univ.map cpEmb

theorem cells_apart : Disjoint barCells cpCells := by
  rw [Finset.disjoint_left]
  rintro g h₁ h₂
  obtain ⟨c, -, rfl⟩ := Finset.mem_map.mp h₁
  obtain ⟨q, -, h⟩ := Finset.mem_map.mp h₂
  exact absurd (congrArg Prod.snd h) (fun h => by cases h)

theorem cells_eq : barCells ∪ cpCells = cells := by
  ext g
  constructor
  · intro h
    rcases Finset.mem_union.mp h with h | h
    · obtain ⟨c, -, rfl⟩ := Finset.mem_map.mp h
      exact Finset.mem_image.mpr ⟨(c, none), Finset.mem_univ _, rfl⟩
    · obtain ⟨q, -, rfl⟩ := Finset.mem_map.mp h
      exact Finset.mem_image.mpr ⟨(q.1, some q.2), Finset.mem_univ _, rfl⟩
  · intro h
    obtain ⟨⟨c, p⟩, -, rfl⟩ := Finset.mem_image.mp h
    cases p with
    | none => exact Finset.mem_union_left _ (Finset.mem_map_of_mem barEmb (Finset.mem_univ c))
    | some p => exact Finset.mem_union_right _ (Finset.mem_map_of_mem cpEmb (Finset.mem_univ (c, p)))

/-- A barrier's two payments, and a copy's semaphores' one each. -/
def barTok : Dev nD × Bool ↪ GSem nD τ sig × ℕ × Bool := ⟨fun q => (barEmb q.1, 0, q.2), fun _ _ h =>
  Prod.ext (barEmb.injective (congrArg Prod.fst h)) (congrArg (fun t : GSem nD τ sig × ℕ × Bool => t.2.2) h)⟩
def cpTok : Dev nD × (Bool × Cp) ↪ GSem nD τ sig × ℕ × Bool :=
  ⟨fun q => (cpEmb q, 0, false), fun _ _ h => cpEmb.injective (congrArg Prod.fst h)⟩

abbrev barToks : Finset (GSem nD τ sig × ℕ × Bool) := Finset.univ.map barTok
abbrev cpToks : Finset (GSem nD τ sig × ℕ × Bool) := Finset.univ.map cpTok

theorem toks_apart : Disjoint barToks cpToks := by
  rw [Finset.disjoint_left]
  rintro t h₁ h₂
  obtain ⟨q, -, rfl⟩ := Finset.mem_map.mp h₁
  obtain ⟨q', -, h⟩ := Finset.mem_map.mp h₂
  exact absurd (congrArg (fun t : GSem nD τ sig × ℕ × Bool => t.1.2) h) (fun h => by cases h)

/-- The ring's rotation, and a copy's sender among the devices. -/
def turn : Dev nD ≃ Dev nD := ⟨nx, pv, pv_nx, nx_pv⟩
def across : Dev nD × Cp ≃ Dev nD × Cp :=
  ⟨fun q => (tgt q.1 q.2.right, q.2), fun q => (tgt q.1 (!q.2.right), q.2), fun q => Prod.ext (tgt_tgt _ _) rfl,
    fun q => Prod.ext (tgt_tgt' _ _) rfl⟩

/-- A family over the devices, read one device further along the ring. -/
theorem turned (Φ : Dev nD → sProp 𝕄) : bigSep Finset.univ Φ = bigSep Finset.univ (fun c => Φ (nx c)) :=
  bigSep_univ_equiv turn Φ
theorem turned' (Φ : Dev nD → sProp 𝕄) : bigSep Finset.univ Φ = bigSep Finset.univ (fun c => Φ (pv c)) :=
  bigSep_univ_equiv turn.symm Φ
/-- A family over the devices and the copies, read at the device each copy goes to. -/
theorem crossed (Φ : Dev nD → Cp → sProp 𝕄) : bigSep Finset.univ (fun c => bigSep Finset.univ (Φ c))
    = bigSep Finset.univ (fun c : Dev nD => bigSep Finset.univ (fun j : Cp => Φ (tgt c j.right) j)) :=
  (bigSep_univ_prod (fun q : Dev nD × Cp => Φ q.1 q.2)).symm.trans
    ((bigSep_univ_equiv across (fun q : Dev nD × Cp => Φ q.1 q.2)).trans
      (bigSep_univ_prod (fun q : Dev nD × Cp => Φ (tgt q.1 q.2.right) q.2)))

/-- The payments of the barriers, each with the device that makes it. -/
theorem bar_toks : bigSep barToks (fun x => (dutyTok ER x.1 x.2.1 x.2.2 : sProp 𝕄))
    ⊢ bigSep Finset.univ (fun c : Dev nD => iprop(dutyTok ER (barCell (pv c)) 0 true ∗ dutyTok ER (barCell (nx c)) 0 false)) := by
  have e : bigSep barToks (fun x => (dutyTok ER x.1 x.2.1 x.2.2 : sProp 𝕄))
      = bigSep Finset.univ (fun q : Dev nD × Bool => (dutyTok ER (barCell q.1) 0 q.2 : sProp 𝕄)) := bigSep_map barTok ..
  have h (c : Dev nD) : bigSep Finset.univ (fun d : Bool => (dutyTok ER (barCell c) 0 d : sProp 𝕄))
      = iprop(dutyTok ER (barCell c) 0 true ∗ dutyTok ER (barCell c) 0 false) := by
    rw [show (Finset.univ : Finset Bool) = insert true {false} from by decide, bigSep_insert (by decide), bigSep_singleton]
    rfl
  rw [e, bigSep_univ_prod, bigSep_congr (fun c (_ : c ∈ Finset.univ) => h c), bigSep_sep', bigSep_sep',
    turned' (fun c => dutyTok ER (barCell c) 0 true), turned (fun c => dutyTok ER (barCell c) 0 false)]

/-- The copies' payments, each with the device that copies. -/
theorem cp_toks : bigSep cpToks (fun x => (dutyTok ER x.1 x.2.1 x.2.2 : sProp 𝕄))
    ⊢ bigSep Finset.univ (fun c : Dev nD => bigSep Finset.univ (fun j : Cp =>
        iprop(dutyTok ER (rCell (tgt c j.right) j) 0 false ∗ dutyTok ER (sCell c j) 0 false))) := by
  have e : bigSep cpToks (fun x => (dutyTok ER x.1 x.2.1 x.2.2 : sProp 𝕄))
      = bigSep Finset.univ (fun q : Dev nD × (Bool × Cp) => (dutyTok ER ((q.1 : Thread nD τ), osem q.2) 0 false : sProp 𝕄)) :=
    bigSep_map cpTok ..
  rw [e, bigSep_univ_prod, bigSep_congr (fun c (_ : c ∈ Finset.univ) => two_kinds _), bigSep_sep',
    bigSep_congr (fun c (_ : c ∈ Finset.univ) => bigSep_sep' Finset.univ (fun j : Cp => dutyTok ER (rCell (tgt c j.right) j) 0 false)
      (fun j : Cp => dutyTok ER (sCell c j) 0 false)), bigSep_sep', ← crossed (fun c j => dutyTok ER (rCell c j) 0 false)]
  iintro ⟨Hs, Hr⟩
  isplitl [Hr]; · iexact Hr
  iexact Hs

end Cert.KernelIdeal.Ring
-- ==== Proof.Launch.lean ====
/- The run of the whole program: what every device's memory holds at its end. -/
module

public import proofs.«01_k».proof.Proof.Grants

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
variable (m : (ℓ : Loc nD τ sig) → Buf (Elt F) ℓ)

local notation "𝕄" => MT nD τ sig Unit (Elt F) ℕ UU ℕ

/-- The launch's ghost state: the staging's, and the ring's. -/
def u₀ : UU :=
  (initOf (Pipeline.cells (Pipeline.pin (pcfgs (F := F)) adm) cellOf_inj) (Pipeline.launchToks (Pipeline.pin (pcfgs (F := F)) adm) cellOf_inj),
    launchOf barCells cpCells (barToks ∪ cpToks))

/-- A resource held by one device. -/
def atDev (c₀ : Dev nD) (X : sProp 𝕄) (c : Dev nD) : sProp 𝕄 := if c = c₀ then X else iprop(emp)
theorem atDev_all (c₀ : Dev nD) (X : sProp 𝕄) : bigSep Finset.univ (atDev c₀ X) = X := by
  rw [bigSep_univ_at _ c₀, bigSep_congr (s := Finset.univ.erase c₀) (Ψ := fun _ => (BI.emp : sProp 𝕄))
      fun c hc => by unfold atDev; rw [if_neg (Finset.ne_of_mem_erase hc)]; rfl, BI.bigSep_emp_const]
  unfold atDev; rw [if_pos rfl]
  exact BI.equiv_iff.mp sep_emp

/-- The ring's ghost state, kept by device 0 until the records are made. -/
def G : Dev nD → sProp 𝕄 := atDev 0 (BI.own (ER (launchOf barCells cpCells (barToks ∪ cpToks))))

/-- What every device may consult: all the records, and that every barrier is at its start. -/
def records (κ : GSem nD τ sig → ℕ) : sProp 𝕄 :=
  iprop(invs (blocks m) κ ∗ bigSep barCells fun g => reached ER g 0)

instance records_persistent (κ : GSem nD τ sig → ℕ) : BI.Persistent (records m κ) := by unfold records invs; infer_instance

theorem reached_at (c : Dev nD) : (bigSep barCells fun g => (reached ER g 0 : sProp 𝕄)) ⊢ reached ER (barCell c) 0 :=
  bigSep_elim (Finset.mem_map_of_mem barEmb (Finset.mem_univ c))

/-- What is handed to one device. -/
def handed (c : Dev nD) : sProp 𝕄 :=
  iprop(atPos ER (barCell c) 0 ∅ 0
    ∗ bigSep Finset.univ (fun p : Bool × Cp => openTok ER ((c : Thread nD τ), osem p))
    ∗ (dutyTok ER (barCell (pv c)) 0 true ∗ dutyTok ER (barCell (nx c)) 0 false)
    ∗ bigSep Finset.univ (fun j : Cp => iprop(dutyTok ER (rCell (tgt c j.right) j) 0 false ∗ dutyTok ER (sCell c j) 0 false)))

/-- What a device brings itself. -/
def brought (c : Dev nD) : sProp 𝕄 :=
  iprop((cred (tallyAt (barCell c) () 2) ∗ bigSep Finset.univ (fun j : Cp => cred (tallyAt (rCell c j) () N)))
    ∗ owes (c : Thread nD τ) (owed₀ c) ∅ ∗ ∃ r, prngReg c r)

/-- What a device carries from the launch to the call. -/
def carried (c : Dev nD) : sProp 𝕄 :=
  iprop(kept m c ∗ (∃ r, prngReg c r) ∗ ∃ W, owes (c : Thread nD τ) (owed₀ c) W)
/-- What a device carries after the call. -/
def left (c : Dev nD) : sProp 𝕄 :=
  iprop(semVal (barCell c) 0 ∗ ∃ W, owes (c : Thread nD τ) (0 : CellTallies nD τ sig Unit) W)

def E : Fin 2 → Dev nD → sProp 𝕄 := fun | 0 => carried m | 1 => left

theorem carried_intro (κ : GSem nD τ sig → ℕ) (c : Dev nD) : iprop(records m κ ∗ (handed c ∗ brought c)) ⊢ carried m c := by
  unfold records handed brought carried kept gbar
  iintro ⟨⟨#HI, #HR⟩, ⟨Hat, Hop, ⟨Ht, Hf⟩, Hcp⟩, ⟨Hc2, Hcj⟩, HO, Hp⟩
  isplitr [HO Hp]
  · isplitr; · iexists κ; iexact HI
    isplitl [Hat Ht Hf Hc2]
    · isplitl [Hat]; · iexact Hat
      isplitl [Hc2]; · iexact Hc2
      isplitr; · iapply (reached_at (F := F) (nx c)); iexact HR
      isplitr; · iapply (reached_at (F := F) (pv c)); iexact HR
      isplitl [Ht] <;> iassumption
    isplitl [Hop]; · iexact Hop
    isplitl [Hcp] <;> iassumption
  isplitl [Hp]; · iexact Hp
  iexists ∅; iexact HO

theorem barrier_sem (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

theorem barrier_only : ∀ sm : SemLoc sig, sm.isScoped .tc = false → sm = .reg barS := by decide +kernel

variable (ρ : Dev nD → PrngReg)

/-- The launch hands every device what it carries to the call. -/
theorem launched :
    iprop((bigSep Finset.univ fun c : Dev nD => iprop(unscopedSems0 c ∗ owes (c : Thread nD τ) (owed₀ c) ∅ ∗ Pipeline.launchCred owed₀ c
        ∗ prngReg c (ρ c) ∗ G c)) ∗ levAts L lv)
      ⊢ (|={Set.univ}=> bigSep Finset.univ (E m 0) : sProp 𝕄) := by
  have hcore (c : Dev nD) : iprop(unscopedSems0 c ∗ owes (c : Thread nD τ) (owed₀ c) ∅ ∗ Pipeline.launchCred owed₀ c ∗ prngReg c (ρ c) ∗ G c)
      ⊢ (iprop(brought c ∗ (semVal (barCell c) 0 ∗ G c)) : sProp 𝕄) := by
    rw [barrier_sem]
    unfold brought
    iintro ⟨Hus, HO, Hcr, Hp, HG⟩
    ihave Hc := (credits (F := F) c) $$ Hcr
    isplitl [Hc HO Hp]
    · isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep cpCells (fun g => (openTok ER g : sProp 𝕄))
      ⊢ bigSep Finset.univ (fun c : Dev nD => bigSep Finset.univ (fun p : Bool × Cp => openTok ER ((c : Thread nD τ), osem p))) :=
    Entails.of_eq ((bigSep_map (s := Finset.univ) cpEmb (Φ := fun g : GSem nD τ sig => (openTok ER g : sProp 𝕄))).trans
      (bigSep_univ_prod (fun q : Dev nD × (Bool × Cp) => (openTok ER ((q.1 : Thread nD τ), osem q.2) : sProp 𝕄))))
  iintro ⟨H, -⟩
  ihave H' := (show (bigSep Finset.univ fun c : Dev nD => iprop(unscopedSems0 c ∗ owes (c : Thread nD τ) (owed₀ c) ∅
          ∗ Pipeline.launchCred owed₀ c ∗ prngReg c (ρ c) ∗ G c))
      ⊢ (bigSep Finset.univ fun c : Dev nD => iprop(brought c ∗ (semVal (barCell c) 0 ∗ G c)) : sProp 𝕄) from bigSep_mono fun c _ => hcore c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (G (F := F)) ⊢ BI.own (ER (launchOf barCells cpCells (barToks ∪ cpToks))) from
    Entails.of_eq (atDev_all (F := F) 0 (BI.own (ER (launchOf barCells cpCells (barToks ∪ cpToks)))))) $$ HG
  imod (Rounds.fund_launch ER (talk (blocks m)) cells_apart (fun g _ h => h) (barToks ∪ cpToks)) $$ [Hv Hu] with ⟨%κ, -, #Hinv, #Hr, Hat, Hopen, Htok⟩
  · isplitl [Hv]
    · iapply hv $$ Hv
    · iexact Hu
  ihave Htok := (Entails.of_eq (joined toks_apart _)) $$ Htok
  icases Htok with ⟨Htb, Htc⟩
  imodintro
  iapply (bigSep_with_persistent (R := records m κ) (Φ := fun c => iprop(handed c ∗ brought c)) fun c _ => carried_intro m κ c)
  isplitr
  · unfold records invs
    rw [← cells_eq]
    isplitr; · iexact Hinv
    iexact Hr
  iapply (Entails.of_eq (bigSep_sep' _ _ _).symm)
  isplitr [HB]
  · unfold handed
    iapply (Entails.of_eq (bigSep_sep' _ _ _).symm); isplitl [Hat]; · iapply hat $$ Hat
    iapply (Entails.of_eq (bigSep_sep' _ _ _).symm); isplitl [Hopen]; · iapply hopen $$ Hopen
    iapply (Entails.of_eq (bigSep_sep' _ _ _).symm); isplitl [Htb]; · iapply (bar_toks (F := F)) $$ Htb
    iapply (cp_toks (F := F)) $$ Htc
  · iexact HB

open Pipeline (Seg)

/-- What a device's memory and barrier hold at the end. -/
def ended (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v9) = V6 m (outs m) c (Proc.devRef .tc main_v9))
  ∧ s.sem (barCell c) = 0

theorem ended_read (c : Dev nD) (s' : Phys nD τ sig (Elt F)) :
    iprop((StableHlo.held (c : Thread nD τ) (Pipeline.ucRefs τ sig) (V6 m (outs m) c) ∗ semVal (barCell c) 0) ∗ SI s')
      ⊢ (|={Set.univ}=> iprop(⌜ended m c s'.mem⌝ ∗ SI s') : sProp 𝕄) := by
  unfold StableHlo.held
  iintro ⟨⟨Hh, Hb⟩, HSI⟩
  icombine HSI Hb gives %hb
  ihave Hr := (pointsTo_read_all (Pipeline.ucRefs τ sig) (fun b => ((c : Thread nD τ).1, b)) (V6 m (outs m) c) s') $$ [Hh HSI]
  · isplitl [Hh] <;> iassumption
  icases Hr with ⟨%h, HSI⟩
  imodintro
  isplitr
  · ipureintro
    exact ⟨⟨(h (Proc.devRef .tc main_arg0) (Finset.mem_filter.mpr ⟨StableHlo.devRef_mem_tcRefs main_arg0, by decide⟩)).trans (V6_main_arg0 m (outs m) c),
      (h (Proc.devRef .tc main_arg1) (Finset.mem_filter.mpr ⟨StableHlo.devRef_mem_tcRefs main_arg1, by decide⟩)).trans (V6_main_arg1 m (outs m) c),
      h (Proc.devRef .tc main_v9) (Finset.mem_filter.mpr ⟨StableHlo.devRef_mem_tcRefs main_v9, by decide⟩)⟩, by simpa using hb⟩
  · iexact HSI

theorem launched_held :
    iprop((bigSep Finset.univ fun c : Dev nD => iprop(unscopedBufs c (fun b => m ((c : Thread nD τ).loc b)) ∗ unscopedSems0 c
        ∗ owes (c : Thread nD τ) (owed₀ c) ∅ ∗ Pipeline.launchCred owed₀ c ∗ prngReg c (ρ c) ∗ G c)) ∗ levAts L lv)
      ⊢ (|={Set.univ}=> bigSep Finset.univ (fun c : Dev nD => iprop(StableHlo.held (c : Thread nD τ) (Pipeline.ucRefs τ sig) (V0 m c) ∗ E m 0 c)) : sProp 𝕄) := by
  have hsplit : (bigSep Finset.univ fun c : Dev nD => iprop(unscopedBufs c (fun b => m ((c : Thread nD τ).loc b)) ∗ unscopedSems0 c
        ∗ owes (c : Thread nD τ) (owed₀ c) ∅ ∗ Pipeline.launchCred owed₀ c ∗ prngReg c (ρ c) ∗ G c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (owed₀ c) ∅ ∗ Pipeline.launchCred owed₀ c ∗ prngReg c (ρ c) ∗ G c))
          : sProp 𝕄) := by
    rw [← bigSep_sep']
    exact bigSep_mono fun c _ => by
      rw [← Pipeline.unscopedBufs_held (Ix := Unit) (Name := ℕ) (U := UU) (Lvl := ℕ) c (V0 m c)]; exact BI.Entails.refl _
  iintro ⟨H, Hla⟩
  ihave H' := hsplit $$ H
  icases H' with ⟨Hh, Hr⟩
  imod (launched m ρ) $$ [Hr Hla] with HE
  · isplitl [Hr]; · iexact Hr
    iexact Hla
  imodintro
  rw [bigSep_sep']
  isplitl [Hh]; · iexact Hh
  iexact HE

set_option backward.isDefEq.respectTransparency.types false in
/-- From any memory with counters at zero every fair run of the program on the devices ends, with the arguments as they were,
    the result as the last valuation has it, and every counter of the machine at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v9) = V6 m (outs m) c (Proc.devRef .tc main_v9)) ∧ r.2.sem = fun _ => 0) :=
  Pipeline.θ_run_regions_kit_dev_sems (pcfgs (F := F)) adm (dats m) () cellOf_inj EP defs₀ 𝒱₀ L lv m ρ main
    (segs m 𝒱₀ L lv (E m) () (dats m) (region m))
    (fun c Q => by
      rewrite [main_chain c, Seg.run_eq_chain,
        show (segs m 𝒱₀ L lv (E m) () (dats m) (region m) c).map Seg.prog = [
          StableHlo.seq (hostOps0 c),
          StableHlo.seq hostOps0_1,
          StableHlo.seq hostOps0_2,
          StableHlo.seq hostOps0_3,
          StableHlo.seq hostOps0_4,
          Prog.lift (.customCall (Pipeline.entry 0) ()) ] from rfl]
      dsimp (config := { failIfUnchanged := false }) only
      exact BI.Entails.refl _)
    (fun c => by simp only [segs, Seg.pipes_host, Seg.pipes_region, Seg.pipes_nil]; decide)
    (O₀ := owed₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [atDev_all]; iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (V6 m (outs m) c) ∗ semVal (barCell c) 0))
    (hch := fun c => ⟨BI.Entails.refl _, BI.Entails.refl _, BI.Entails.refl _, BI.Entails.refl _, BI.Entails.refl _, region_pre m c, by
      refine (region_post m c).trans ?_
      iintro ⟨Hh, Hb0, HO⟩
      isplitr [HO]
      · isplitl [Hh] <;> iassumption
      · iexact HO⟩)
    (hinit := launched_held m ρ)
    (QY := ended m)
    (hfin := ended_read m)
    (hQ := fun s h hs => ⟨fun c => (h c).1, sem_eq_zero hs fun c sm hsm => by
        obtain rfl := barrier_only sm hsm
        exact (h c).2⟩)

end Cert.KernelIdeal.Ring
-- ==== Proof.Reads.lean ====
/- The kernel's arithmetic over the reals, entry by entry. -/
module

public import proofs.«01_k».proof.Proof.Stage
public import Idealize.ShloMosaic.Lib.Pointwise

@[expose] public section

noncomputable section

namespace Cert.KernelIdeal.Reads

open Idealize.ShloMosaic Cert.KernelIdeal Cert.KernelIdeal.Gen

/-- The block of x as a device sends it is its transpose: the cast to the narrower format changes no real. -/
theorem x_at (X : Vec Ideal S2048x64 .f32) (i : Fin 64) (j : Fin 2048) :
    k0_pay2 X (ix3 (0 : Fin 1) i j : S1x64x2048.Idx) = X (ix2 j i) := by
  pointwise [k0_pay2]

/-- The block of w is sent as it is. -/
theorem w_at (W : Vec Ideal S64x2048 .f32) (i : Fin 64) (j : Fin 2048) :
    k0_pay3 W (ix3 (0 : Fin 1) i j : S1x64x2048.Idx) = W (ix2 i j) := by
  pointwise [k0_pay3]

/-- A block of columns of the product, entry by entry. -/
theorem product_at (U : Vec Ideal S32x64x2048 .bf16) (V : Vec Ideal S32x64x512 .bf16) (a : Fin 2048) (b : Fin 512) :
    k0_pay5 (k0_pay4 U) V (ix2 a b : S2048x512.Idx)
      = max (∑ k : Fin 2048, U (ix3 (⟨k.val / 64, by omega⟩ : Fin 32) (⟨k.val % 64, by omega⟩ : Fin 64) a)
          * V (ix3 (⟨k.val / 64, by omega⟩ : Fin 32) (⟨k.val % 64, by omega⟩ : Fin 64) b)) 0 := by
  pointwise [k0_pay5, k0_pay4]

end Cert.KernelIdeal.Reads
-- ==== Proof.Value.lean ====
/- The kernel's result over the reals is the reference's: the rectified product of the two whole matrices. -/
module

public import proofs.«01_k».proof.Proof.Region
public import proofs.«01_k».proof.Proof.Reads
public import proofs.«01_k».proof.Proof.Gen.ReferenceIdeal.Run
public import Idealize.ShloMosaic.Lib.Layout

@[expose] public section

noncomputable section

namespace Cert.KernelIdeal.Ring

open Idealize.ShloMosaic Idealize.ShloMosaic.TcCoe
open Idealize.ShloMosaic.Pipeline (Dat Cfg)
open Cert.KernelIdeal.Gen

/-! ## What the run leaves in the result -/

section

variable {F : FTy → Type} [FloatOps F]
variable (m : (ℓ : Loc nD τ sig) → Buf (Elt F) ℓ) (c : Dev nD)

/-- An element of the result's one block lies in the array at its own place. -/
theorem result_emb (y : S2048x2048.Idx) : ((cfg0.win (4 : Fin 5)).blk t0_0).view.emb y = y := by
  funext a
  refine Fin.ext ?_
  show 0 * _ + 1 * (y a).val = (y a).val
  omega

/-- The result's array ends with what the call's body left in the window. -/
theorem final : V6 m (outs m) c main_v9 = res m c := by
  rw [outs_v9]
  funext y
  have h := (dats m 0 c).arrAt_emb_eq_flushed (4 : Fin 5)
    (fun t t' _ _ h => absurd (Subsingleton.elim (α := Fin 1) t t') h) t0_0 rfl y
  rw [result_emb] at h
  exact h

end

/-! ## The ring's order of the devices -/

/-- A device's place on the ring. -/
def pos : Dev nD → ℕ :=
  ![0, 31, 24, 7, 8, 23, 16, 15, 1, 30, 25, 6, 9, 22, 17, 14, 2, 29, 26, 5, 10, 21, 18, 13, 3, 28, 27, 4, 11, 20, 19, 12]

theorem pos_pv (c : Dev nD) : (pos (pv c) + 1) % 32 = pos c % 32 := by revert c; decide

theorem pos_iter (c : Dev nD) (k : ℕ) : (pos (pv^[k] c) + k) % 32 = pos c % 32 := by
  induction k with
  | zero => rfl
  | succ k ih =>
    rw [Function.iterate_succ_apply']
    have := pos_pv (pv^[k] c)
    omega

/-- Going round the ring from any device meets every device once. -/
theorem org_bijective (c : Dev nD) : Function.Bijective (org c) := by
  refine (Finite.injective_iff_bijective (α := Fin 32) (f := org c)).mp fun k k' h => Fin.ext ?_
  have h1 := pos_iter c k.val
  have h2 := pos_iter c k'.val
  have h3 : pv^[k.val] c = pv^[k'.val] c := h
  rw [h3] at h1
  omega

/-- Place `b` of device `d`'s 64 places of the contracted axis. -/
def place (d : Dev nD) (b : Fin 64) : Fin 2048 := ⟨64 * d.val + b.val, by have : d.val < 32 := d.2; omega⟩

/-- A sum over the 2048 places of the contracted axis is the sum, over the devices in any ring order, of the
    sums over a device's 64 places. -/
theorem sum_ring (c : Dev nD) (f : Fin 2048 → EReal) :
    ∑ k : Fin 2048, f (place (org c ⟨k.val / 64, by omega⟩) ⟨k.val % 64, by omega⟩)
      = ∑ k : Fin 2048, f k := by
  have split (g : Fin 32 → Fin 64 → EReal) :
      ∑ k : Fin 2048, g ⟨k.val / 64, by omega⟩ ⟨k.val % 64, by omega⟩ = ∑ a : Fin 32, ∑ b : Fin 64, g a b := by
    rw [← Fintype.sum_prod_type' (f := g)]
    exact Fintype.sum_equiv (finProdFinEquiv (m := 32) (n := 64)).symm _ _ (fun k => rfl)
  have h1 := split fun a b => f (place (org c a) b)
  have h2 := split fun a b => f (place a b)
  refine h1.trans (Eq.trans ?_ (h2.symm.trans (Finset.sum_congr rfl fun k _ => congrArg f (Fin.ext (by show 64 * (k.val / 64) + k.val % 64 = k.val; omega)))))
  exact (Equiv.ofBijective (org c) (org_bijective c)).sum_comp fun d : Fin 32 => ∑ b : Fin 64, f (place d b)

/-! ## The two results -/

/-- The rectified product of two whole matrices, entry by entry. -/
def spec (A B : S2048x2048.Idx → EReal) : S2048x2048.Idx → EReal := fun i =>
  max (∑ k : Fin 2048, A (Idealize.ShloMosaic.ix2 (i 0) k) * B (Idealize.ShloMosaic.ix2 k (i 1))) 0

/-- The reference's result. -/
theorem reference_eq (A B : Vec Ideal S2048x2048 .f32) :
    (maximumf (Host.dotGeneral (φ₁ := .f32) (φ₂ := .f32) Cert.ReferenceIdeal.dot_S2048x2048_S2048x2048_S2048x2048_1_0_0_1_n_n none A B)
      (broadcastInDim S2048x2048 ![] Cert.ReferenceIdeal.Gen.bcast_S_S2048x2048 (constant (F := Ideal) S_ .f32 0x00000000#32)) : Vec Ideal S2048x2048 .f32)
      = spec A B := by
  funext i
  obtain ⟨a, b, rfl⟩ : ∃ a b, i = Idealize.ShloMosaic.ix2 a b := ⟨i 0, i 1, by funext x; fin_cases x <;> rfl⟩
  unfold spec
  pointwise []

/-- The kernel's result, when the devices' arguments are the blocks of two whole matrices. -/
theorem kernel_eq (m : (ℓ : Loc nD τ sig) → Buf (Elt Ideal) ℓ) (A B : S2048x2048.Idx → EReal)
    (hx : ∀ d : Dev nD, m ((d : Thread nD τ).loc main_arg0) = Layout.block ⟨2, ![2048, 64]⟩ ⟨2, ![2048, 2048]⟩ 1 32 d A)
    (hw : ∀ d : Dev nD, m ((d : Thread nD τ).loc main_arg1) = Layout.block ⟨2, ![64, 2048]⟩ ⟨2, ![2048, 2048]⟩ 0 32 d B)
    (c : Dev nD) : res m c = spec A B := by
  funext i
  have hX (d : Dev nD) (b : Fin 64) (a : Fin 2048) :
      blocks m false d b a = A (Idealize.ShloMosaic.ix2 a (place d b)) := by
    refine Eq.trans (congrArg (k0_pay2 (xst m d)) (show ix b a = Idealize.ShloMosaic.ix3 (0 : Fin 1) b a from by funext x; fin_cases x <;> rfl)) ?_
    rw [Reads.x_at, xst_eq, hx, Layout.block_apply]
    refine congrArg A (funext fun x => Fin.ext ?_)
    fin_cases x
    · rfl
    · show d.val * 64 + b.val = 64 * d.val + b.val
      omega
  have hW (d : Dev nD) (b : Fin 64) (a : Fin 2048) :
      blocks m true d b a = B (Idealize.ShloMosaic.ix2 (place d b) a) := by
    refine Eq.trans (congrArg (k0_pay3 (wst m d)) (show ix b a = Idealize.ShloMosaic.ix3 (0 : Fin 1) b a from by funext x; fin_cases x <;> rfl)) ?_
    rw [Reads.w_at, wst_eq, hw, Layout.block_apply]
    refine congrArg B (funext fun x => Fin.ext ?_)
    fin_cases x
    · show d.val * 64 + b.val = 64 * d.val + b.val
      omega
    · rfl
  have hi : (i 1).val < 2048 := (i 1).2
  refine Eq.trans (congrArg (k0_pay5 (k0_pay4 (full (blocks m) false c)) (cols (full (blocks m) true c) ⟨(i 1).val / 512, by omega⟩))
    (show ix2 (i 0) ⟨(i 1).val % 512, Nat.mod_lt _ (by decide)⟩ = Idealize.ShloMosaic.ix2 (i 0) (⟨(i 1).val % 512, Nat.mod_lt _ (by decide)⟩ : Fin 512)
      from by funext x; fin_cases x <;> rfl)) ?_
  refine (Reads.product_at _ _ _ _).trans ?_
  unfold spec
  refine congrArg (fun v : EReal => max v 0) ?_
  refine Eq.trans (Finset.sum_congr rfl fun k _ => ?_)
    (sum_ring c fun k => A (Idealize.ShloMosaic.ix2 (i 0) k) * B (Idealize.ShloMosaic.ix2 k (i 1)))
  refine congrArg₂ (fun u v : EReal => u * v) (hX _ _ _) (Eq.trans ?_ (hW (org c ⟨k.val / 64, by omega⟩) ⟨k.val % 64, by omega⟩ (i 1)))
  refine congrArg (blocks m true (org c ⟨k.val / 64, by omega⟩) ⟨k.val % 64, by omega⟩) (Fin.ext ?_)
  show 512 * ((i 1).val / 512) + (i 1).val % 512 = (i 1).val
  omega

end Cert.KernelIdeal.Ring
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

set_option maxRecDepth 65536 in
/-- The kernel as printed and its idealization are one text, so the frame of the one is a frame of the other. -/
theorem frame_text : Cert.quiescent_Kernel =
    ∀ (m : (ℓ : Loc Cert.KernelIdeal.nD Cert.KernelIdeal.τ Cert.KernelIdeal.sig) → Buf (Elt Bits) ℓ) (g : Dev Cert.KernelIdeal.nD → PrngReg), True →
      θ_run (Cert.KernelIdeal.defs (F := Bits)) (onTc (τ := Cert.KernelIdeal.τ) (Cert.KernelIdeal.main (F := Bits))) ⟨m, fun _ => 0, g⟩ (fun r =>
        (∀ c : Dev Cert.KernelIdeal.nD,
          r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) := by
  chain_rfl

/-- The kernel runs, at bit patterns: its arguments end unchanged and every counter at zero. -/
theorem frame_kernel : Cert.quiescent_Kernel := by
  rw [frame_text]
  exact fun m ρ _ => (θ_run Cert.KernelIdeal.defs _ _).mono (fun _ h => ⟨fun c => ⟨(h.1 c).1, (h.1 c).2.1⟩, h.2⟩)
    (Cert.KernelIdeal.Ring.run_main (F := Bits) m ρ)

/-- Its idealization runs, over the reals. -/
theorem frame_kernelIdeal : Cert.quiescent_KernelIdeal := fun m ρ _ =>
  (θ_run Cert.KernelIdeal.defs _ _).mono (fun _ h => ⟨fun c => ⟨(h.1 c).1, (h.1 c).2.1⟩, h.2⟩) (Cert.KernelIdeal.Ring.run_main (F := Ideal) m ρ)

/-- The reference runs; it has no semaphore. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- Over the reals the kernel and the reference leave one result, on every device. -/
theorem algebraic : Cert.algebraic_KernelIdeal_ReferenceIdeal := fun m g m' g' _ h =>
  ⟨Cert.KernelIdeal.Ring.spec (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ r c => ⟨(r.1 c).2.2.trans ((Cert.KernelIdeal.Ring.final m c).trans
        (Cert.KernelIdeal.Ring.kernel_eq m _ _ (fun d => (h d).1) (fun d => (h d).2) c)), (r.1 c).1, (r.1 c).2.1⟩)
      (Cert.KernelIdeal.Ring.run_main (F := Ideal) m g),
    (θ_run Cert.ReferenceIdeal.defs _ _).mono (fun _ r => ⟨(r 0).1.trans (Cert.KernelIdeal.Ring.reference_eq _ _), (r 0).2⟩)
      (Cert.ReferenceIdeal.Value.run (F := Ideal) m' g')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
